-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S1x2048x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S128x2048 : Shape := ⟨2, ![128, 2048]⟩
abbrev S2048x128 : Shape := ⟨2, ![2048, 128]⟩
abbrev S8x2048 : Shape := ⟨2, ![8, 2048]⟩
abbrev S2048x1 : Shape := ⟨2, ![2048, 1]⟩
abbrev S1 : Shape := ⟨1, ![1]⟩
abbrev S1x1 : Shape := ⟨2, ![1, 1]⟩
abbrev S8x128 : Shape := ⟨2, ![8, 128]⟩
abbrev S8 : Shape := ⟨1, ![8]⟩
abbrev S8x1 : Shape := ⟨2, ![8, 1]⟩
abbrev S128x256 : Shape := ⟨2, ![128, 256]⟩

abbrev nBuf : Space → Nat
  | .hbm => 21
  | .vmem => 36
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S1x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S128x2048, .f32⟩
  | .hbm, ⟨17, _⟩ => ⟨S128x2048, .f32⟩
  | .hbm, ⟨18, _⟩ => ⟨S1x2048, .f32⟩
  | .hbm, ⟨19, _⟩ => ⟨S2048x2048, .f32⟩
  | .hbm, ⟨20, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S2048x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S8x2048, .f32⟩
  | .local _ .vmem, ⟨27, _⟩ => ⟨S8x2048, .f32⟩
  | .local _ .vmem, ⟨28, _⟩ => ⟨S8x2048, .f32⟩
  | .local _ .vmem, ⟨29, _⟩ => ⟨S8x2048, .f32⟩
  | .local _ .vmem, ⟨30, _⟩ => ⟨S128x256, .f32⟩
  | .local _ .vmem, ⟨31, _⟩ => ⟨S128x256, .f32⟩
  | .local _ .vmem, ⟨32, _⟩ => ⟨S128x2048, .f32⟩
  | .local _ .vmem, ⟨33, _⟩ => ⟨S1x2048, .f32⟩
  | .local _ .vmem, ⟨34, _⟩ => ⟨S256x2048, .f32⟩
  | .local _ .vmem, ⟨35, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x2048x2048 : Shape := ⟨3, ![1, 2048, 2048]⟩
abbrev S2048x2048 : Shape := ⟨2, ![2048, 2048]⟩
abbrev S2048 : Shape := ⟨1, ![2048]⟩
abbrev S1x1x2048 : Shape := ⟨3, ![1, 1, 2048]⟩
abbrev S1x2048x16x128 : Shape := ⟨4, ![1, 2048, 16, 128]⟩
abbrev S1x16x2048x128 : Shape := ⟨4, ![1, 16, 2048, 128]⟩
abbrev S_ : Shape := ⟨0, ![]⟩
abbrev S1x16x2048x2048 : Shape := ⟨4, ![1, 16, 2048, 2048]⟩
abbrev S1x16x2048 : Shape := ⟨3, ![1, 16, 2048]⟩
abbrev S1x16x7 : Shape := ⟨3, ![1, 16, 7]⟩
abbrev S1x16x7x1 : Shape := ⟨4, ![1, 16, 7, 1]⟩
abbrev S16x7x1 : Shape := ⟨3, ![16, 7, 1]⟩
abbrev S1 : Shape := ⟨1, ![1]⟩
abbrev S1x1x1 : Shape := ⟨3, ![1, 1, 1]⟩
abbrev S16x7 : Shape := ⟨2, ![16, 7]⟩
abbrev S1x16x7x128 : Shape := ⟨4, ![1, 16, 7, 128]⟩
abbrev S1x16x7x2048 : Shape := ⟨4, ![1, 16, 7, 2048]⟩
abbrev S16 : Shape := ⟨1, ![16]⟩
abbrev S1x16x1 : Shape := ⟨3, ![1, 16, 1]⟩
abbrev S1x16x7x3 : Shape := ⟨4, ![1, 16, 7, 3]⟩

abbrev nBuf : Space → Nat
  | .hbm => 124
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S1x2048x2048, .f32⟩
  | .hbm, ⟨11, _⟩ => ⟨S1x1x2048, .f32⟩
  | .hbm, ⟨12, _⟩ => ⟨S1x2048x2048, .f32⟩
  | .hbm, ⟨13, _⟩ => ⟨S1x2048x2048, .f32⟩
  | .hbm, ⟨14, _⟩ => ⟨S1x2048x16x128, .f32⟩
  | .hbm, ⟨15, _⟩ => ⟨S1x16x2048x128, .f32⟩
  | .hbm, ⟨16, _⟩ => ⟨S2048x2048, .f32⟩
  | .hbm, ⟨17, _⟩ => ⟨S1x2048x2048, .f32⟩
  | .hbm, ⟨18, _⟩ => ⟨S1x1x2048, .f32⟩
  | .hbm, ⟨19, _⟩ => ⟨S1x2048x2048, .f32⟩
  | .hbm, ⟨20, _⟩ => ⟨S1x2048x2048, .f32⟩
  | .hbm, ⟨21, _⟩ => ⟨S1x2048x16x128, .f32⟩
  | .hbm, ⟨22, _⟩ => ⟨S1x16x2048x128, .f32⟩
  | .hbm, ⟨23, _⟩ => ⟨S2048x2048, .f32⟩
  | .hbm, ⟨24, _⟩ => ⟨S1x2048x2048, .f32⟩
  | .hbm, ⟨25, _⟩ => ⟨S1x1x2048, .f32⟩
  | .hbm, ⟨26, _⟩ => ⟨S1x2048x2048, .f32⟩
  | .hbm, ⟨27, _⟩ => ⟨S1x2048x2048, .f32⟩
  | .hbm, ⟨28, _⟩ => ⟨S1x2048x16x128, .f32⟩
  | .hbm, ⟨29, _⟩ => ⟨S1x16x2048x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x16x2048x2048, .f32⟩
  | .hbm, ⟨35, _⟩ => ⟨S1x16x2048x2048, .f32⟩
  | .hbm, ⟨36, _⟩ => ⟨S1x16x2048x2048, .f32⟩
  | .hbm, ⟨37, _⟩ => ⟨S_, .f32⟩
  | .hbm, ⟨38, _⟩ => ⟨S1x16x2048, .f32⟩
  | .hbm, ⟨39, _⟩ => ⟨S1x16x7, .f32⟩
  | .hbm, ⟨40, _⟩ => ⟨S1x16x7, .i32⟩
  | .hbm, ⟨41, _⟩ => ⟨S1x16x7x1, .i32⟩
  | .hbm, ⟨42, _⟩ => ⟨S_, .i32⟩
  | .hbm, ⟨43, _⟩ => ⟨S1x16x7x1, .i32⟩
  | .hbm, ⟨44, _⟩ => ⟨S1x16x7x1, .i1⟩
  | .hbm, ⟨45, _⟩ => ⟨S_, .i32⟩
  | .hbm, ⟨46, _⟩ => ⟨S1x16x7x1, .i32⟩
  | .hbm, ⟨47, _⟩ => ⟨S1x16x7x1, .i32⟩
  | .hbm, ⟨48, _⟩ => ⟨S1x16x7x1, .i32⟩
  | .hbm, ⟨49, _⟩ => ⟨S16x7x1, .i32⟩
  | .hbm, ⟨50, _⟩ => ⟨S1, .i32⟩
  | .hbm, ⟨51, _⟩ => ⟨S_, .i32⟩
  | .hbm, ⟨52, _⟩ => ⟨S16x7x1, .i32⟩
  | .hbm, ⟨53, _⟩ => ⟨S16x7x1, .i1⟩
  | .hbm, ⟨54, _⟩ => ⟨S1x1x1, .i32⟩
  | .hbm, ⟨55, _⟩ => ⟨S16x7x1, .i32⟩
  | .hbm, ⟨56, _⟩ => ⟨S16x7x1, .i1⟩
  | .hbm, ⟨57, _⟩ => ⟨S16x7x1, .i1⟩
  | .hbm, ⟨58, _⟩ => ⟨S_, .i1⟩
  | .hbm, ⟨59, _⟩ => ⟨S16x7, .i1⟩
  | .hbm, ⟨60, _⟩ => ⟨S1x16x7x128, .f32⟩
  | .hbm, ⟨61, _⟩ => ⟨S1x16x7x128, .i1⟩
  | .hbm, ⟨62, _⟩ => ⟨S_, .f32⟩
  | .hbm, ⟨63, _⟩ => ⟨S1x16x7x128, .f32⟩
  | .hbm, ⟨64, _⟩ => ⟨S1x16x7x128, .f32⟩
  | .hbm, ⟨65, _⟩ => ⟨S1x16x7x2048, .f32⟩
  | .hbm, ⟨66, _⟩ => ⟨S1x16x7x2048, .f32⟩
  | .hbm, ⟨67, _⟩ => ⟨S1x16x7x2048, .f32⟩
  | .hbm, ⟨68, _⟩ => ⟨S_, .f32⟩
  | .hbm, ⟨69, _⟩ => ⟨S1x16x7, .f32⟩
  | .hbm, ⟨70, _⟩ => ⟨S_, .f32⟩
  | .hbm, ⟨71, _⟩ => ⟨S1x16x7, .f32⟩
  | .hbm, ⟨72, _⟩ => ⟨S1x16x7, .f32⟩
  | .hbm, ⟨73, _⟩ => ⟨S1x16x7x1, .f32⟩
  | .hbm, ⟨74, _⟩ => ⟨S1x16x7x2048, .f32⟩
  | .hbm, ⟨75, _⟩ => ⟨S1x16x7x2048, .f32⟩
  | .hbm, ⟨76, _⟩ => ⟨S1x16x7x2048, .f32⟩
  | .hbm, ⟨77, _⟩ => ⟨S_, .f32⟩
  | .hbm, ⟨78, _⟩ => ⟨S1x16x7, .f32⟩
  | .hbm, ⟨79, _⟩ => ⟨S1x16x7x1, .f32⟩
  | .hbm, ⟨80, _⟩ => ⟨S1x16x7x2048, .f32⟩
  | .hbm, ⟨81, _⟩ => ⟨S1x16x7x2048, .f32⟩
  | .hbm, ⟨82, _⟩ => ⟨S1x16x7x128, .f32⟩
  | .hbm, ⟨83, _⟩ => ⟨S_, .f32⟩
  | .hbm, ⟨84, _⟩ => ⟨S1x16x2048x128, .f32⟩
  | .hbm, ⟨85, _⟩ => ⟨S1, .i32⟩
  | .hbm, ⟨86, _⟩ => ⟨S1x1x1, .i32⟩
  | .hbm, ⟨87, _⟩ => ⟨S16, .i32⟩
  | .hbm, ⟨88, _⟩ => ⟨S1x16x1, .i32⟩
  | .hbm, ⟨89, _⟩ => ⟨S_, .i32⟩
  | .hbm, ⟨90, _⟩ => ⟨S1x1x1, .i32⟩
  | .hbm, ⟨91, _⟩ => ⟨S1x1x1, .i1⟩
  | .hbm, ⟨92, _⟩ => ⟨S_, .i32⟩
  | .hbm, ⟨93, _⟩ => ⟨S1x1x1, .i32⟩
  | .hbm, ⟨94, _⟩ => ⟨S1x1x1, .i32⟩
  | .hbm, ⟨95, _⟩ => ⟨S1x1x1, .i32⟩
  | .hbm, ⟨96, _⟩ => ⟨S_, .i32⟩
  | .hbm, ⟨97, _⟩ => ⟨S1x16x1, .i32⟩
  | .hbm, ⟨98, _⟩ => ⟨S1x16x1, .i1⟩
  | .hbm, ⟨99, _⟩ => ⟨S_, .i32⟩
  | .hbm, ⟨100, _⟩ => ⟨S1x16x1, .i32⟩
  | .hbm, ⟨101, _⟩ => ⟨S1x16x1, .i32⟩
  | .hbm, ⟨102, _⟩ => ⟨S1x16x1, .i32⟩
  | .hbm, ⟨103, _⟩ => ⟨S_, .i32⟩
  | .hbm, ⟨104, _⟩ => ⟨S1x16x7, .i32⟩
  | .hbm, ⟨105, _⟩ => ⟨S1x16x7, .i1⟩
  | .hbm, ⟨106, _⟩ => ⟨S_, .i32⟩
  | .hbm, ⟨107, _⟩ => ⟨S1x16x7, .i32⟩
  | .hbm, ⟨108, _⟩ => ⟨S1x16x7, .i32⟩
  | .hbm, ⟨109, _⟩ => ⟨S1x16x7, .i32⟩
  | .hbm, ⟨110, _⟩ => ⟨S1x16x7, .i32⟩
  | .hbm, ⟨111, _⟩ => ⟨S1x16x7, .i32⟩
  | .hbm, ⟨112, _⟩ => ⟨S1x16x7x1, .i32⟩
  | .hbm, ⟨113, _⟩ => ⟨S1x16x7x1, .i32⟩
  | .hbm, ⟨114, _⟩ => ⟨S1x16x7x1, .i32⟩
  | .hbm, ⟨115, _⟩ => ⟨S1x16x7x3, .i32⟩
  | .hbm, ⟨116, _⟩ => ⟨S1x16x2048x128, .f32⟩
  | .hbm, ⟨117, _⟩ => ⟨S1x2048x16x128, .f32⟩
  | .hbm, ⟨118, _⟩ => ⟨S1x2048x2048, .f32⟩
  | .hbm, ⟨119, _⟩ => ⟨S2048x2048, .f32⟩
  | .hbm, ⟨120, _⟩ => ⟨S1x2048x2048, .f32⟩
  | .hbm, ⟨121, _⟩ => ⟨S1x1x2048, .f32⟩
  | .hbm, ⟨122, _⟩ => ⟨S1x2048x2048, .f32⟩
  | .hbm, ⟨123, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_values : Ref sig .tc := ⟨.hbm, 39, rfl⟩
abbrev main_indices : Ref sig .tc := ⟨.hbm, 40, rfl⟩
abbrev main_v27 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_4 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c : Ref sig .tc := ⟨.hbm, 89, rfl⟩
abbrev main_v49 : Ref sig .tc := ⟨.hbm, 90, rfl⟩
abbrev main_v50 : Ref sig .tc := ⟨.hbm, 91, rfl⟩
abbrev main_c_6 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_7 : Ref sig .tc := ⟨.hbm, 96, rfl⟩
abbrev main_v54 : Ref sig .tc := ⟨.hbm, 97, rfl⟩
abbrev main_v55 : Ref sig .tc := ⟨.hbm, 98, rfl⟩
abbrev main_c_8 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_9 : Ref sig .tc := ⟨.hbm, 103, rfl⟩
abbrev main_v59 : Ref sig .tc := ⟨.hbm, 104, rfl⟩
abbrev main_v60 : Ref sig .tc := ⟨.hbm, 105, rfl⟩
abbrev main_c_10 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]
-- ==== Proof.Launched.lean ====
/-
  The kernel's run with its result.
-/
module

public import proofs.«01_k».proof.Proof.Gen.KernelIdeal.Frame

@[expose] public section

set_option maxRecDepth 16384

noncomputable section

namespace Cert.KernelIdeal.Launched

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (x : Loc nD τ sig) → Buf (Elt Ideal) x) (ρ : Dev nD → PrngReg)

-- the launch's implicit arguments are found by unifying its conclusion with this one
set_option backward.isDefEq.respectTransparency.types false in
/-- Every weakly fair execution ends with the result at what the last host operation leaves and the arguments as launched. -/
theorem run : θ_run defs (onTc (τ := τ) (main (F := Ideal))) ⟨m, fun _ => 0, ρ⟩ (fun r => ∀ c : Dev nD,
      r.2.mem ((c.tc : Thread nD τ).loc main_v10) = W10 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v10 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Launched

end
-- ==== Proof.Select.lean ====
/-
  The selection, as mathematics: the positions a stable descending sort puts first are the ones found by taking, again and
  again, the first position of the greatest entry and removing it.
-/
module

public import Idealize.ShloMosaic.Lib.SortFacts
public import Mathlib.Data.EReal.Basic

@[expose] public section

noncomputable section

namespace Cert.Select

open Idealize.ShloMosaic

variable {n : ℕ}

/-- The order of the sort: the greater entry first. -/
def gtB (f : Fin n → EReal) (k k' : Fin n) : Bool := decide (f k' < f k)

/-- The same order with equal entries put in order of position. -/
def lexB (f : Fin n → EReal) (k k' : Fin n) : Bool := decide (f k' < f k ∨ (f k = f k' ∧ k < k'))

/-- On an increasing list of positions the two orders sort alike. -/
theorem stableSort_gt_eq_lex (f : Fin n → EReal) : ∀ l : List (Fin n), l.Pairwise (· < ·) →
    stableSort (gtB f) l = stableSort (lexB f) l
  | [], _ => rfl
  | a :: l, hl => by
    rw [List.pairwise_cons] at hl
    unfold stableSort
    rw [stableSort_gt_eq_lex f l hl.2]
    refine insertBefore_congr _ _ a _ fun b hb => ?_
    have hab : a < b := hl.1 b ((perm_stableSort (lexB f) l).mem_iff.mp hb)
    unfold gtB lexB
    have : ¬ b < a := not_lt.mpr hab.le
    simp [this]

/-- The position the sort puts at `j`. -/
def pos (f : Fin n → EReal) (j : Fin n) : Fin n := sortedFrom (gtB f) j

/-- The same position, by the refined order. -/
theorem pos_eq (f : Fin n → EReal) (j : Fin n) : pos f j = sortedFrom (lexB f) j := by
  have h : sortPositions n (gtB f) = sortPositions n (lexB f) :=
    stableSort_gt_eq_lex f _ (List.pairwise_lt_finRange n)
  unfold pos sortedFrom
  simp only [List.get_eq_getElem, Fin.val_cast, h]

theorem pos_injective (f : Fin n → EReal) : Function.Injective (pos f) := sortedFrom_injective _

theorem pos_surjective (f : Fin n → EReal) : Function.Surjective (pos f) := sortedFrom_surjective _

/-- An earlier place holds a greater entry, or an equal one at an earlier position. -/
theorem pos_lt (f : Fin n → EReal) {i j : Fin n} (hij : i < j) :
    f (pos f j) < f (pos f i) ∨ (f (pos f i) = f (pos f j) ∧ pos f i < pos f j) := by
  have h := sortedFrom_noInversion (lexB f) (lexB f)
    (fun a b h => by
      simp only [lexB, decide_eq_true_eq, decide_eq_false_iff_not] at h ⊢
      rcases h with h | ⟨h, h'⟩
      · rintro (g | ⟨g, _⟩)
        · exact absurd h (not_lt.mpr g.le)
        · exact absurd g (ne_of_lt h)
      · rintro (g | ⟨_, g⟩)
        · exact absurd h (ne_of_lt g)
        · exact absurd h' (not_lt.mpr g.le))
    (fun _ _ h => h)
    (fun a b c h h' => by
      simp only [lexB, decide_eq_false_iff_not, not_or, not_lt, not_and] at h h' ⊢
      refine ⟨h.1.trans h'.1, fun e => ?_⟩
      have e1 : f a = f b := le_antisymm h.1 (h'.1.trans e.ge)
      have e2 : f b = f c := e1 ▸ e
      exact (h'.2 e2).trans (h.2 e1)) i j hij
  rw [← pos_eq, ← pos_eq] at h
  simp only [lexB, decide_eq_false_iff_not, not_or, not_lt, not_and] at h
  rcases lt_or_eq_of_le h.1 with g | g
  · exact Or.inl g
  · refine Or.inr ⟨g.symm, lt_of_le_of_ne (h.2 g) fun e => ?_⟩
    exact absurd (pos_injective f e) (ne_of_lt hij)

/-- The entries left after the first `j` positions have been removed. -/
def left (f : Fin n → EReal) (j : ℕ) (k : Fin n) : EReal := if ∃ i : Fin n, i.val < j ∧ pos f i = k then ⊥ else f k

theorem left_zero (f : Fin n → EReal) : left f 0 = f := by
  funext k; unfold left; rw [if_neg]; rintro ⟨i, h, _⟩; exact absurd h (Nat.not_lt_zero _)

/-- Removing one more position. -/
theorem left_succ (f : Fin n → EReal) (j : Fin n) (k : Fin n) :
    left f (j.val + 1) k = if k = pos f j then ⊥ else left f j.val k := by
  unfold left
  by_cases hk : k = pos f j
  · rw [if_pos hk, if_pos ⟨j, Nat.lt_succ_self _, hk.symm⟩]
  · rw [if_neg hk]
    congr 1
    apply propext
    constructor
    · rintro ⟨i, hi, e⟩
      refine ⟨i, lt_of_le_of_ne (Nat.lt_succ_iff.mp hi) fun h => hk ?_, e⟩
      rw [← e, Fin.ext h]
    · rintro ⟨i, hi, e⟩; exact ⟨i, Nat.lt_succ_of_lt hi, e⟩

theorem left_pos (f : Fin n → EReal) (j : Fin n) : left f j.val (pos f j) = f (pos f j) := by
  unfold left; rw [if_neg]; rintro ⟨i, hi, e⟩
  rw [pos_injective f e] at hi; exact absurd hi (lt_irrefl _)

/-- Of what is left, the entry at the next position is the greatest … -/
theorem left_le (f : Fin n → EReal) (j k : Fin n) : left f j.val k ≤ left f j.val (pos f j) := by
  rw [left_pos]
  obtain ⟨i, rfl⟩ := pos_surjective f k
  unfold left
  split_ifs with h
  · exact bot_le
  · rcases lt_trichotomy i j with g | g | g
    · exact absurd ⟨i, g, rfl⟩ h
    · rw [g]
    · rcases pos_lt f g with g' | g'
      · exact g'.le
      · exact g'.1.ge

/-- … and the first of the greatest, when no entry is `⊥`. -/
theorem left_first (f : Fin n → EReal) (hf : ∀ k, f k ≠ ⊥) (j k : Fin n) (hk : left f j.val (pos f j) ≤ left f j.val k) :
    pos f j ≤ k := by
  rw [left_pos] at hk
  obtain ⟨i, rfl⟩ := pos_surjective f k
  unfold left at hk
  split_ifs at hk with h
  · exact absurd (le_bot_iff.mp hk) (hf _)
  · rcases lt_trichotomy i j with g | g | g
    · exact absurd ⟨i, g, rfl⟩ h
    · rw [g]
    · rcases pos_lt f g with g' | g'
      · exact absurd hk (not_le.mpr g')
      · exact g'.2.le

/-- Two rows in the same order are sorted alike. -/
theorem pos_congr (f g : Fin n → EReal) (h : ∀ k k', f k < f k' ↔ g k < g k') : pos f = pos g := by
  have : gtB f = gtB g := by funext k k'; unfold gtB; exact decide_eq_decide.mpr (h k' k)
  funext j; unfold pos; rw [this]

end Cert.Select

end
-- ==== Proof.Spec.lean ====
/-
  The attention of one head, and of the whole, as plain mathematics over extended reals.
-/
module

public import proofs.«01_k».proof.Proof.Select
public import Idealize.ShloMosaic.PureOps.Ideal

@[expose] public section

noncomputable section

namespace Cert.Spec

open Idealize.ShloMosaic

/-- The scale `1/√128`. -/
def scale : EReal := (((Real.sqrt 128)⁻¹ : ℝ) : EReal)

/-- A projection `x·Wᵀ + b`. -/
def proj (x W : Fin 2048 → Fin 2048 → EReal) (b : Fin 2048 → EReal) (l n : Fin 2048) : EReal :=
  (∑ k : Fin 2048, x l k * W n k) + b n

/-- Column `c` of head `h`. -/
def col (h : Fin 16) (c : Fin 128) : Fin 2048 := ⟨h.val * 128 + c.val, by omega⟩

/-- The part of a projection that belongs to head `h`. -/
def head (Q : Fin 2048 → Fin 2048 → EReal) (h : Fin 16) (l : Fin 2048) (c : Fin 128) : EReal := Q l (col h c)

/-- A query's greatest score. -/
def rowMax (q k : Fin 2048 → Fin 128 → EReal) (l : Fin 2048) : EReal :=
  Finset.univ.fold max ⊥ fun m : Fin 2048 => ∑ c : Fin 128, q l c * k m c

/-- The scaled scores of one query. -/
def attnRow (qs : Fin 128 → EReal) (k : Fin 2048 → Fin 128 → EReal) (m : Fin 2048) : EReal :=
  (∑ c : Fin 128, qs c * k m c) * scale

/-- The exponential of a row's entry less the row's maximum. -/
def expRow (a : Fin 2048 → EReal) (m : Fin 2048) : EReal := Ideal.exp (a m - Finset.univ.fold max ⊥ a)

/-- The softmax of a row. -/
def soft (a : Fin 2048 → EReal) (m : Fin 2048) : EReal := Ideal.div (expRow a m) (∑ m' : Fin 2048, expRow a m')

/-- The attention of one query over a head. -/
def ctxRow (qs : Fin 128 → EReal) (k v : Fin 2048 → Fin 128 → EReal) (c : Fin 128) : EReal :=
  ∑ m : Fin 2048, soft (attnRow qs k) m * v m c

/-- The query the selection puts at place `j` of a head. -/
def top (q k : Fin 2048 → Fin 128 → EReal) (j : Fin 7) : Fin 2048 := Select.pos (rowMax q k) ⟨j.val, by omega⟩

/-- The output: at row `l` each head's attention where `l` is among its selected queries, projected, and the bias. -/
def out (Q K V Wo : Fin 2048 → Fin 2048 → EReal) (bo : Fin 2048 → EReal) (l n : Fin 2048) : EReal :=
  (∑ h : Fin 16, ∑ j : Fin 7, if l = top (head Q h) (head K h) j then
      ∑ c : Fin 128, ctxRow (head Q h l) (head K h) (head V h) c * Wo n (col h c) else 0) + bo n

end Cert.Spec

end
-- ==== Proof.Blocks.lean ====
/-
  The head kernel's two arrays after its region, and the scatter kernel's: each as a function of the arrays the
  region finds.
-/
module

public import proofs.«01_k».proof.Proof.Gen.KernelIdeal.Frame
public import proofs.«01_k».proof.Proof.Spec
public import Idealize.ShloMosaic.Lib.Pointwise
public import Idealize.ShloMosaic.Lib.Pipeline.Value

@[expose] public section

set_option maxRecDepth 16384

noncomputable section

namespace Cert.KernelIdeal.Blocks

open Idealize.ShloMosaic Idealize.ShloMosaic.TcCoe Cert.KernelIdeal.Gen Idealize.ShloMosaic.Pointwise
open Idealize.ShloMosaic.Pipeline (Dat)

/-- A head's 128 columns of an array. -/
def hcols (A : S2048x2048.Idx → EReal) (h : Fin 16) : Vec Ideal S2048x128 .f32 := fun i => A (ix2 (i 0) (Spec.col h (i 1)))

/-- The heads' blocks of eight rows, one below the other. -/
def stack (f : Fin 16 → Vec Ideal S8x2048 .f32) : S128x2048.Idx → EReal := fun i =>
  f ⟨(i 0).val / 8, by have : (i 0).val < 128 := (i 0).isLt; omega⟩ (ix2 ⟨(i 0).val % 8, Nat.mod_lt _ (by decide)⟩ (i 1))

/-- Row `h·8 + j` of the stack is row `j` of head `h`. -/
theorem stack_apply (f : Fin 16 → Vec Ideal S8x2048 .f32) (h : Fin 16) (j : Fin 8) (n : Fin 2048) :
    stack f (ix2 ⟨h.val * 8 + j.val, by omega⟩ n) = f h (ix2 j n) := by
  have e1 : (⟨(h.val * 8 + j.val) / 8, by omega⟩ : Fin 16) = h := Fin.ext (by show (h.val * 8 + j.val) / 8 = h.val; omega)
  have e2 : (⟨(h.val * 8 + j.val) % 8, Nat.mod_lt _ (by decide)⟩ : Fin 8) = j := Fin.ext (by show (h.val * 8 + j.val) % 8 = j.val; omega)
  show f ⟨(h.val * 8 + j.val) / 8, _⟩ (ix2 ⟨(h.val * 8 + j.val) % 8, _⟩ n) = _
  rw [e1, e2]

variable (V : (c : Dev nD) → (b : Ref sig .tc) → Buf (Elt Ideal) ((c : Thread nD τ).loc b))

/-! ## The head kernel -/

attribute [local irreducible] out3_4 out3_5

/-- The windows' block indices. -/
theorem idx3 : ∀ t : Fin cfg3.N, win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val
    ∧ win3_4.index t (0 : Fin 2) = t.val ∧ win3_4.index t (1 : Fin 2) = 0
    ∧ win3_5.index t (0 : Fin 2) = t.val ∧ win3_5.index t (1 : Fin 2) = 0 := (by decide +kernel : ∀ t : Fin grid3.N, _)

/-- The bound of the grid. -/
theorem lt3 (t : Fin cfg3.N) : t.val < 16 := (by decide +kernel : ∀ t : Fin grid3.N, t.val < 16) t

/-- A point's head. -/
def hd (t : Fin cfg3.N) : Fin 16 := ⟨t.val, lt3 t⟩

theorem emb3_0 (t : Fin cfg3.N) (r : Fin 2048) (k : Fin 128) :
    ((cfg3.win 0).blk t).view.emb (ix2 r k) = (ix2 r (Spec.col (hd t) k) : S2048x2048.Idx) := by
  obtain ⟨e0, e1, _⟩ := idx3 t
  funext a; apply Fin.ext
  match a with
  | ⟨0, _⟩ => show win3_0.index t (0 : Fin 2) * 2048 + 1 * r.val = r.val; omega
  | ⟨1, _⟩ => show win3_0.index t (1 : Fin 2) * 128 + 1 * k.val = t.val * 128 + k.val; omega

theorem iblk3_0_eq (c : Dev nD) (t : Fin cfg3.N) : iblk3 V c 0 t = hcols (V c main_v2) (hd t) := by
  refine funext (α := S2048x128.Idx) fun j => ?_
  obtain ⟨r, k, rfl⟩ : ∃ (r : Fin 2048) (k : Fin 128), j = ix2 r k := ⟨j 0, j 1, ValueIdx.eq_ix2 j⟩
  exact congrArg (V c main_v2) (emb3_0 t r k)

theorem emb3_1 (t : Fin cfg3.N) (r : Fin 2048) (k : Fin 128) :
    ((cfg3.win 1).blk t).view.emb (ix2 r k) = (ix2 r (Spec.col (hd t) k) : S2048x2048.Idx) := by
  obtain ⟨_, _, e0, e1, _⟩ := idx3 t
  funext a; apply Fin.ext
  match a with
  | ⟨0, _⟩ => show win3_1.index t (0 : Fin 2) * 2048 + 1 * r.val = r.val; omega
  | ⟨1, _⟩ => show win3_1.index t (1 : Fin 2) * 128 + 1 * k.val = t.val * 128 + k.val; omega

theorem iblk3_1_eq (c : Dev nD) (t : Fin cfg3.N) : iblk3 V c 1 t = hcols (V c main_v4) (hd t) := by
  refine funext (α := S2048x128.Idx) fun j => ?_
  obtain ⟨r, k, rfl⟩ : ∃ (r : Fin 2048) (k : Fin 128), j = ix2 r k := ⟨j 0, j 1, ValueIdx.eq_ix2 j⟩
  exact congrArg (V c main_v4) (emb3_1 t r k)

theorem emb3_2 (t : Fin cfg3.N) (r : Fin 2048) (k : Fin 128) :
    ((cfg3.win 2).blk t).view.emb (ix2 r k) = (ix2 r (Spec.col (hd t) k) : S2048x2048.Idx) := by
  obtain ⟨_, _, _, _, e0, e1, _⟩ := idx3 t
  funext a; apply Fin.ext
  match a with
  | ⟨0, _⟩ => show win3_2.index t (0 : Fin 2) * 2048 + 1 * r.val = r.val; omega
  | ⟨1, _⟩ => show win3_2.index t (1 : Fin 2) * 128 + 1 * k.val = t.val * 128 + k.val; omega

theorem iblk3_2_eq (c : Dev nD) (t : Fin cfg3.N) : iblk3 V c 2 t = hcols (V c main_v6) (hd t) := by
  refine funext (α := S2048x128.Idx) fun j => ?_
  obtain ⟨r, k, rfl⟩ : ∃ (r : Fin 2048) (k : Fin 128), j = ix2 r k := ⟨j 0, j 1, ValueIdx.eq_ix2 j⟩
  exact congrArg (V c main_v6) (emb3_2 t r k)

theorem emb3_3 (t : Fin cfg3.N) (r : Fin 2048) (k : Fin 128) :
    ((cfg3.win 3).blk t).view.emb (ix2 r k) = (ix2 r (Spec.col (hd t) k) : S2048x2048.Idx) := by
  obtain ⟨_, _, _, _, _, _, e0, e1, _⟩ := idx3 t
  funext a; apply Fin.ext
  match a with
  | ⟨0, _⟩ => show win3_3.index t (0 : Fin 2) * 2048 + 1 * r.val = r.val; omega
  | ⟨1, _⟩ => show win3_3.index t (1 : Fin 2) * 128 + 1 * k.val = t.val * 128 + k.val; omega

theorem iblk3_3_eq (c : Dev nD) (t : Fin cfg3.N) : iblk3 V c 3 t = hcols (V c main_arg7) (hd t) := by
  refine funext (α := S2048x128.Idx) fun j => ?_
  obtain ⟨r, k, rfl⟩ : ∃ (r : Fin 2048) (k : Fin 128), j = ix2 r k := ⟨j 0, j 1, ValueIdx.eq_ix2 j⟩
  exact congrArg (V c main_arg7) (emb3_3 t r k)

/-- The masks of the arrays' heads. -/
def arr3_4 (Q K V Wo : S2048x2048.Idx → EReal) : S128x2048.Idx → EReal :=
  stack fun h => out3_4 (hcols Q h) (hcols K h) (hcols V h) (hcols Wo h)

theorem emb3_4 (t : Fin cfg3.N) (r : Fin 8) (k : Fin 2048) :
    ((cfg3.win 4).blk t).view.emb (ix2 r k) = (ix2 ⟨(hd t).val * 8 + r.val, by omega⟩ k : S128x2048.Idx) := by
  obtain ⟨_, _, _, _, _, _, _, _, e0, e1, _⟩ := idx3 t
  funext a; apply Fin.ext
  match a with
  | ⟨0, _⟩ => show win3_4.index t (0 : Fin 2) * 8 + 1 * r.val = t.val * 8 + r.val; omega
  | ⟨1, _⟩ => show win3_4.index t (1 : Fin 2) * 2048 + 1 * k.val = k.val; omega

/-- What a point writes back is its head's block of the masks. -/
theorem flushed3_4_eq (c : Dev nD) (t : Fin cfg3.N) : (dat3 V c).flushed 4 t
    = ((cfg3.win 4).blk t).view.read (Elt Ideal) (arr3_4 (V c main_v2) (V c main_v4) (V c main_v6) (V c main_arg7)) := by
  show (cfg3.win 4).cut (grid3.coords t) ((dat3 V c).after 4 t) = _
  rw [after3_4, iblk3_0_eq, iblk3_1_eq, iblk3_2_eq, iblk3_3_eq]
  refine funext (α := S8x2048.Idx) fun j => ?_
  obtain ⟨r, n, rfl⟩ : ∃ (r : Fin 8) (n : Fin 2048), j = ix2 r n := ⟨j 0, j 1, ValueIdx.eq_ix2 j⟩
  show out3_4 (hcols (V c main_v2) (hd t)) (hcols (V c main_v4) (hd t)) (hcols (V c main_v6) (hd t)) (hcols (V c main_arg7) (hd t)) (ix2 r n)
    = arr3_4 (V c main_v2) (V c main_v4) (V c main_v6) (V c main_arg7) (((cfg3.win 4).blk t).view.emb (ix2 r n))
  rw [emb3_4]
  exact (stack_apply (fun h => out3_4 (hcols (V c main_v2) h) (hcols (V c main_v4) h) (hcols (V c main_v6) h) (hcols (V c main_arg7) h)) (hd t) r n).symm

/-- Every index of the masks is in some point's block. -/
theorem cover3_4 (i : S128x2048.Idx) : ∃ t : Fin cfg3.N, (cfg3.win 4).flush t = true ∧ i ∈ ((cfg3.win 4).blk t).view.set := by
  have hi := (i 0).isLt
  have hi : (i 0).val < 128 := hi
  obtain ⟨t, ht⟩ : ∃ t : Fin cfg3.N, t.val = (i 0).val / 8 :=
    ⟨⟨(i 0).val / 8, lt_of_lt_of_eq (show (i 0).val / 8 < 16 by omega) (by decide +kernel : 16 = grid3.N)⟩, rfl⟩
  refine ⟨t, flush3_4 t, ?_⟩
  have e : ((cfg3.win 4).blk t).view.emb (ix2 ⟨(i 0).val % 8, Nat.mod_lt _ (by decide)⟩ (i 1) : S8x2048.Idx) = i := by
    refine (emb3_4 t ⟨(i 0).val % 8, Nat.mod_lt _ (by decide)⟩ (i 1)).trans ?_
    funext a; apply Fin.ext
    match a with
    | ⟨0, _⟩ => show t.val * 8 + (i 0).val % 8 = (i 0).val; omega
    | ⟨1, _⟩ => rfl
  exact e ▸ ((cfg3.win 4).blk t).view.emb_mem_set _

/-- The region leaves the masks of the arrays it finds. -/
theorem final3_4 (c : Dev nD) : (dat3 V c).arrAt 4 cfg3.N = arr3_4 (V c main_v2) (V c main_v4) (V c main_v6) (V c main_arg7) :=
  (dat3 V c).arrAt_eq_of_cover 4 _ (fun t _ => flushed3_4_eq V c t) cover3_4

/-- The contributions of the arrays' heads. -/
def arr3_5 (Q K V Wo : S2048x2048.Idx → EReal) : S128x2048.Idx → EReal :=
  stack fun h => out3_5 (hcols Q h) (hcols K h) (hcols V h) (hcols Wo h)

theorem emb3_5 (t : Fin cfg3.N) (r : Fin 8) (k : Fin 2048) :
    ((cfg3.win 5).blk t).view.emb (ix2 r k) = (ix2 ⟨(hd t).val * 8 + r.val, by omega⟩ k : S128x2048.Idx) := by
  obtain ⟨_, _, _, _, _, _, _, _, _, _, e0, e1⟩ := idx3 t
  funext a; apply Fin.ext
  match a with
  | ⟨0, _⟩ => show win3_5.index t (0 : Fin 2) * 8 + 1 * r.val = t.val * 8 + r.val; omega
  | ⟨1, _⟩ => show win3_5.index t (1 : Fin 2) * 2048 + 1 * k.val = k.val; omega

/-- What a point writes back is its head's block of the contributions. -/
theorem flushed3_5_eq (c : Dev nD) (t : Fin cfg3.N) : (dat3 V c).flushed 5 t
    = ((cfg3.win 5).blk t).view.read (Elt Ideal) (arr3_5 (V c main_v2) (V c main_v4) (V c main_v6) (V c main_arg7)) := by
  show (cfg3.win 5).cut (grid3.coords t) ((dat3 V c).after 5 t) = _
  rw [after3_5, iblk3_0_eq, iblk3_1_eq, iblk3_2_eq, iblk3_3_eq]
  refine funext (α := S8x2048.Idx) fun j => ?_
  obtain ⟨r, n, rfl⟩ : ∃ (r : Fin 8) (n : Fin 2048), j = ix2 r n := ⟨j 0, j 1, ValueIdx.eq_ix2 j⟩
  show out3_5 (hcols (V c main_v2) (hd t)) (hcols (V c main_v4) (hd t)) (hcols (V c main_v6) (hd t)) (hcols (V c main_arg7) (hd t)) (ix2 r n)
    = arr3_5 (V c main_v2) (V c main_v4) (V c main_v6) (V c main_arg7) (((cfg3.win 5).blk t).view.emb (ix2 r n))
  rw [emb3_5]
  exact (stack_apply (fun h => out3_5 (hcols (V c main_v2) h) (hcols (V c main_v4) h) (hcols (V c main_v6) h) (hcols (V c main_arg7) h)) (hd t) r n).symm

/-- Every index of the contributions is in some point's block. -/
theorem cover3_5 (i : S128x2048.Idx) : ∃ t : Fin cfg3.N, (cfg3.win 5).flush t = true ∧ i ∈ ((cfg3.win 5).blk t).view.set := by
  have hi := (i 0).isLt
  have hi : (i 0).val < 128 := hi
  obtain ⟨t, ht⟩ : ∃ t : Fin cfg3.N, t.val = (i 0).val / 8 :=
    ⟨⟨(i 0).val / 8, lt_of_lt_of_eq (show (i 0).val / 8 < 16 by omega) (by decide +kernel : 16 = grid3.N)⟩, rfl⟩
  refine ⟨t, flush3_5 t, ?_⟩
  have e : ((cfg3.win 5).blk t).view.emb (ix2 ⟨(i 0).val % 8, Nat.mod_lt _ (by decide)⟩ (i 1) : S8x2048.Idx) = i := by
    refine (emb3_5 t ⟨(i 0).val % 8, Nat.mod_lt _ (by decide)⟩ (i 1)).trans ?_
    funext a; apply Fin.ext
    match a with
    | ⟨0, _⟩ => show t.val * 8 + (i 0).val % 8 = (i 0).val; omega
    | ⟨1, _⟩ => rfl
  exact e ▸ ((cfg3.win 5).blk t).view.emb_mem_set _

/-- The region leaves the contributions of the arrays it finds. -/
theorem final3_5 (c : Dev nD) : (dat3 V c).arrAt 5 cfg3.N = arr3_5 (V c main_v2) (V c main_v4) (V c main_v6) (V c main_arg7) :=
  (dat3 V c).arrAt_eq_of_cover 5 _ (fun t _ => flushed3_5_eq V c t) cover3_5

/-! ## The scatter kernel -/

/-- The offset of a whole block's access. -/
theorem off0 : (![0, 0] : Fin 2 → ℕ) = fun _ => 0 := by funext a; fin_cases a <;> rfl

/-- The masks' transpose times the contributions, and the bias. -/
def arr4 (M C : S128x2048.Idx → EReal) (b : S1x2048.Idx → EReal) : S2048x2048.Idx → EReal := fun i =>
  (∑ r : Fin 128, M (ix2 r (i 0)) * C (ix2 r (i 1))) + b (ix2 0 (i 1))

/-- What the body stores. -/
theorem out4_apply (M : Vec Ideal S128x256 .f32) (C : Vec Ideal S128x2048 .f32) (b : Vec Ideal S1x2048 .f32) (l : Fin 256) (n : Fin 2048) :
    out4_3 M C b (ix2 l n) = (∑ r : Fin 128, M (ix2 r l) * C (ix2 r n)) + b (ix2 0 n) := by
  unfold out4_3
  rw [View.ld_unit_zero off0, View.ld_unit_zero off0, View.ld_unit_zero off0, View.canon_unit_zero off0]
  pointwise [k4_pay1]

/-- The windows' block indices. -/
theorem idx4 : ∀ t : Fin cfg4.N, win4_0.index t (0 : Fin 2) = 0 ∧ win4_0.index t (1 : Fin 2) = t.val
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 := (by decide +kernel : ∀ t : Fin grid4.N, _)

/-- The bound of the grid. -/
theorem lt4 (t : Fin cfg4.N) : t.val < 8 := (by decide +kernel : ∀ t : Fin grid4.N, t.val < 8) t

theorem emb4_0 (t : Fin cfg4.N) (r : Fin 128) (k : Fin 256) :
    ((cfg4.win 0).blk t).view.emb (ix2 r k) = (ix2 r ⟨t.val * 256 + k.val, by have := lt4 t; omega⟩ : S128x2048.Idx) := by
  obtain ⟨e0, e1, _⟩ := idx4 t
  funext a; apply Fin.ext
  match a with
  | ⟨0, _⟩ => show win4_0.index t (0 : Fin 2) * 128 + 1 * r.val = r.val; omega
  | ⟨1, _⟩ => show win4_0.index t (1 : Fin 2) * 256 + 1 * k.val = t.val * 256 + k.val; omega

theorem emb4_1 (t : Fin cfg4.N) (j : S128x2048.Idx) : ((cfg4.win 1).blk t).view.emb j = j := by
  obtain ⟨_, _, e0, e1, _⟩ := idx4 t
  funext a; apply Fin.ext
  match a with
  | ⟨0, _⟩ => show win4_1.index t (0 : Fin 2) * 128 + 1 * (j 0).val = (j 0).val; omega
  | ⟨1, _⟩ => show win4_1.index t (1 : Fin 2) * 2048 + 1 * (j 1).val = (j 1).val; omega

theorem emb4_2 (t : Fin cfg4.N) (j : S1x2048.Idx) : ((cfg4.win 2).blk t).view.emb j = j := by
  obtain ⟨_, _, _, _, e0, e1, _⟩ := idx4 t
  funext a; apply Fin.ext
  match a with
  | ⟨0, _⟩ => show win4_2.index t (0 : Fin 2) * 1 + 1 * (j 0).val = (j 0).val; omega
  | ⟨1, _⟩ => show win4_2.index t (1 : Fin 2) * 2048 + 1 * (j 1).val = (j 1).val; omega

theorem emb4_3 (t : Fin cfg4.N) (r : Fin 256) (k : Fin 2048) :
    ((cfg4.win 3).blk t).view.emb (ix2 r k) = (ix2 ⟨t.val * 256 + r.val, by have := lt4 t; omega⟩ k : S2048x2048.Idx) := by
  obtain ⟨_, _, _, _, _, _, e0, e1⟩ := idx4 t
  funext a; apply Fin.ext
  match a with
  | ⟨0, _⟩ => show win4_3.index t (0 : Fin 2) * 256 + 1 * r.val = t.val * 256 + r.val; omega
  | ⟨1, _⟩ => show win4_3.index t (1 : Fin 2) * 2048 + 1 * k.val = k.val; omega

/-- What a point writes back is its block of the whole output. -/
theorem flushed4_eq (c : Dev nD) (t : Fin cfg4.N) :
    (dat4 V c).flushed 3 t = ((cfg4.win 3).blk t).view.read (Elt Ideal) (arr4 (V c main_v7_0) (V c main_v7_1) (V c main_v8)) := by
  show (cfg4.win 3).cut (grid4.coords t) ((dat4 V c).after 3 t) = _
  rw [after4_3]
  refine funext (α := S256x2048.Idx) fun j => ?_
  obtain ⟨l, n, rfl⟩ : ∃ (l : Fin 256) (n : Fin 2048), j = ix2 l n := ⟨j 0, j 1, ValueIdx.eq_ix2 j⟩
  show out4_3 (iblk4 V c 0 t) (iblk4 V c 1 t) (iblk4 V c 2 t) (ix2 l n)
    = arr4 (V c main_v7_0) (V c main_v7_1) (V c main_v8) (((cfg4.win 3).blk t).view.emb (ix2 l n))
  rw [emb4_3, out4_apply]
  have h0 : ∀ r : Fin 128, iblk4 V c 0 t (ix2 r l) = V c main_v7_0 (ix2 r ⟨t.val * 256 + l.val, by have := lt4 t; omega⟩) := fun r =>
    congrArg (V c main_v7_0) (emb4_0 t r l)
  have h1 : ∀ r : Fin 128, iblk4 V c 1 t (ix2 r n) = V c main_v7_1 (ix2 r n) := fun r => congrArg (V c main_v7_1) (emb4_1 t (ix2 r n))
  have h2 : iblk4 V c 2 t (ix2 0 n) = V c main_v8 (ix2 0 n) := congrArg (V c main_v8) (emb4_2 t (ix2 0 n))
  exact congrArg₂ (· + ·) (Finset.sum_congr rfl fun r _ => congrArg₂ (· * ·) (h0 r) (h1 r)) h2

/-- Every index of the output is in some point's block. -/
theorem cover4 (i : S2048x2048.Idx) : ∃ t : Fin cfg4.N, (cfg4.win 3).flush t = true ∧ i ∈ ((cfg4.win 3).blk t).view.set := by
  have hi := (i 0).isLt
  have hi : (i 0).val < 2048 := hi
  obtain ⟨t, ht⟩ : ∃ t : Fin cfg4.N, t.val = (i 0).val / 256 :=
    ⟨⟨(i 0).val / 256, lt_of_lt_of_eq (show (i 0).val / 256 < 8 by omega) (by decide +kernel : 8 = grid4.N)⟩, rfl⟩
  refine ⟨t, flush4_3 t, ?_⟩
  have e : ((cfg4.win 3).blk t).view.emb (ix2 ⟨(i 0).val % 256, Nat.mod_lt _ (by decide)⟩ (i 1) : S256x2048.Idx) = i := by
    refine (emb4_3 t ⟨(i 0).val % 256, Nat.mod_lt _ (by decide)⟩ (i 1)).trans ?_
    funext a; apply Fin.ext
    match a with
    | ⟨0, _⟩ => show t.val * 256 + (i 0).val % 256 = (i 0).val; omega
    | ⟨1, _⟩ => rfl
  exact e ▸ ((cfg4.win 3).blk t).view.emb_mem_set _

/-- The region leaves the output of the arrays it finds. -/
theorem final4 (c : Dev nD) : (dat4 V c).arrAt 3 cfg4.N = arr4 (V c main_v7_0) (V c main_v7_1) (V c main_v8) :=
  (dat4 V c).arrAt_eq_of_cover 3 _ (fun t _ => flushed4_eq V c t) cover4

end Cert.KernelIdeal.Blocks

end
-- ==== Proof.Round.lean ====
/-
  One round of the head kernel's selection, as the kernel's vector operations: the first position of the row's greatest
  entry as a mask, and the row with that entry replaced by `-∞`; and the seven rounds as the sort's first seven positions.
-/
module

public import proofs.«01_k».proof.Proof.Gen.KernelIdeal.Frame
public import proofs.«01_k».proof.Proof.Select
public import Idealize.ShloMosaic.Lib.Pointwise

@[expose] public section

set_option maxRecDepth 16384

noncomputable section

namespace Cert.KernelIdeal.Round

open Idealize.ShloMosaic Cert.KernelIdeal.Gen Idealize.ShloMosaic.Pointwise

/-- The mask of the first position of the greatest entry. -/
def oh (rm : FVec Ideal S1x2048 .f32) : IVec S1x2048 1 :=
  cmpi .eq (iota .tc S1x2048 32 [1] iota_S1x2048_d1_w32)
    (broadcastTo S1x2048 (shapeCast S1x1 (multiReductionI .minsi [1] S1
      (select (cmpf .oge rm (broadcastTo S1x2048 (shapeCast S1x1
          (multiReduction .maximumf [1] S1 rm 0xFF800000#32 reduces_S1x2048_S1 (.inl rfl) rfl) shapeCasts_S1_S1x1) broadcasts_S1x1_S1x2048))
        (iota .tc S1x2048 32 [1] iota_S1x2048_d1_w32) (broadcast S1x2048 2048#32))
      2147483647#32 reduces_S1x2048_S1 rfl) shapeCasts_S1_S1x1) broadcasts_S1x1_S1x2048)

/-- The row with the masked entry removed. -/
def drop (rm : FVec Ideal S1x2048 .f32) : FVec Ideal S1x2048 .f32 :=
  select (oh rm) (broadcast S1x2048 (Scalar.ofBits .f32 0xFF800000#32)) rm

/-- The mask as numbers. -/
def row (rm : FVec Ideal S1x2048 .f32) : FVec Ideal S1x2048 .f32 := sitofp .f32 (extui 32 (oh rm) natLt_1_32)

/-- The word of a position. -/
def word (k : Fin 2048) : BitVec 32 := BitVec.ofNat 32 k.val

theorem word_toInt (k : Fin 2048) : (word k).toInt = k.val := by
  unfold word
  rw [BitVec.toInt_eq_toNat_of_lt] <;> simp [BitVec.toNat_ofNat] <;> omega

theorem ofBits_ninf : Ideal.ofBits .f32 0xFF800000#32 = ⊥ := by simp [Ideal.ofBits, Ideal.ieee]

/-- The fold of the maximum from `-∞` is the greatest entry. -/
theorem fold_max_eq {n : ℕ} (g : Fin n → EReal) (p : Fin n) (hle : ∀ k, g k ≤ g p) :
    Finset.fold max (⊥ : EReal) g Finset.univ = g p :=
  le_antisymm ((Finset.fold_max_le _).mpr ⟨bot_le, fun k _ => hle k⟩)
    ((Finset.le_fold_max _).mpr (Or.inr ⟨p, Finset.mem_univ _, le_rfl⟩))

/-- A fold of the signed minimum is one of the entries or the start, and below them all. -/
theorem fold_minsi (b : BitVec 32) {n : ℕ} (w : Fin n → BitVec 32) (s : Finset (Fin n)) :
    (s.fold IntOp.minsi b w = b ∨ ∃ k ∈ s, s.fold IntOp.minsi b w = w k)
      ∧ (s.fold IntOp.minsi b w).toInt ≤ b.toInt ∧ ∀ k ∈ s, (s.fold IntOp.minsi b w).toInt ≤ (w k).toInt := by
  induction s using Finset.induction_on with
  | empty => simp
  | insert a s ha ih =>
    rw [Finset.fold_insert ha]
    obtain ⟨h1, h2, h3⟩ := ih
    by_cases h : (w a).slt (s.fold IntOp.minsi b w) = true
    · have e : IntOp.minsi (w a) (s.fold IntOp.minsi b w) = w a := by simp [IntOp.minsi, h]
      rw [BitVec.slt_iff_toInt_lt] at h
      rw [e]
      refine ⟨Or.inr ⟨a, Finset.mem_insert_self _ _, rfl⟩, h.le.trans h2, fun k hk => ?_⟩
      rcases Finset.mem_insert.mp hk with rfl | hk
      · exact le_rfl
      · exact h.le.trans (h3 k hk)
    · have e : IntOp.minsi (w a) (s.fold IntOp.minsi b w) = s.fold IntOp.minsi b w := by simp [IntOp.minsi, h]
      rw [BitVec.slt_iff_toInt_lt, not_lt] at h
      rw [e]
      refine ⟨h1.imp id fun ⟨k, hk, e⟩ => ⟨k, Finset.mem_insert_of_mem hk, e⟩, h2, fun k hk => ?_⟩
      rcases Finset.mem_insert.mp hk with rfl | hk
      · exact h
      · exact h3 k hk

/-- The least position of those marked is the first of the greatest entries. -/
theorem fold_first (g : Fin 2048 → EReal) (p : Fin 2048) (hfirst : ∀ k, g p ≤ g k → p ≤ k) :
    Finset.fold IntOp.minsi 2147483647#32 (fun x : Fin 2048 => if g p ≤ g x then BitVec.ofNat 32 x.val else 2048#32) Finset.univ
      = word p := by
  obtain ⟨h1, h2, h3⟩ := fold_minsi 2147483647#32 (fun x : Fin 2048 => if g p ≤ g x then BitVec.ofNat 32 x.val else 2048#32) Finset.univ
  have hp := h3 p (Finset.mem_univ _)
  rw [if_pos le_rfl] at hp
  have hw := word_toInt p
  unfold word at hw ⊢
  rw [hw] at hp
  have hlt := p.isLt
  rcases h1 with h | ⟨k, _, h⟩
  · rw [h] at hp
    have : (2147483647#32).toInt = 2147483647 := by decide
    omega
  · rw [h] at hp ⊢
    by_cases hk : g p ≤ g k
    · rw [if_pos hk] at hp ⊢
      have hw' := word_toInt k
      unfold word at hw'
      rw [hw'] at hp
      have := hfirst k hk
      have e : k = p := le_antisymm (by rw [Fin.le_def]; omega) this
      rw [e]
    · rw [if_neg hk] at hp
      have : (2048#32).toInt = 2048 := by decide
      omega

theorem word_inj {k p : Fin 2048} : BitVec.ofNat 32 k.val = BitVec.ofNat 32 p.val ↔ k = p := by
  constructor
  · intro h
    have h1 := word_toInt k
    have h2 := word_toInt p
    unfold word at h1 h2
    rw [h, h2] at h1
    exact Fin.ext (by omega)
  · rintro rfl; rfl

/-- The mask is set at the first of the greatest entries and nowhere else. -/
theorem oh_apply (rm : FVec Ideal S1x2048 .f32) (g : Fin 2048 → EReal) (hrm : ∀ k, rm (ix2 0 k) = g k) (p : Fin 2048)
    (hle : ∀ k, g k ≤ g p) (hfirst : ∀ k, g p ≤ g k → p ≤ k) (k : Fin 2048) :
    oh rm (ix2 0 k) = if k = p then 1#1 else 0#1 := by
  pointwise [oh, hrm]
  rw [ofBits_ninf, fold_max_eq g p hle, fold_first g p hfirst]
  unfold word
  by_cases h : k = p
  · rw [if_pos h, h]; simp [IntOp.cmpi]
  · rw [if_neg h]
    have : BitVec.ofNat 32 k.val ≠ BitVec.ofNat 32 p.val := fun e => h (word_inj.mp e)
    show BitVec.ofBool (BitVec.ofNat 32 k.val == BitVec.ofNat 32 p.val) = 0#1
    rw [beq_eq_false_iff_ne.mpr this]; rfl

/-- The row with that entry removed. -/
theorem drop_apply (rm : FVec Ideal S1x2048 .f32) (p : Fin 2048)
    (ho : ∀ k, oh rm (ix2 0 k) = if k = p then 1#1 else 0#1) (k : Fin 2048) :
    drop rm (ix2 0 k) = if k = p then ⊥ else rm (ix2 0 k) := by
  pointwise [drop, ho]
  rw [ofBits_ninf]
  by_cases h : k = p
  · rw [if_pos h, if_pos h]; rfl
  · rw [if_neg h, if_neg h]; rfl

/-- The mask as the numbers one and zero. -/
theorem row_apply (rm : FVec Ideal S1x2048 .f32) (p : Fin 2048)
    (ho : ∀ k, oh rm (ix2 0 k) = if k = p then 1#1 else 0#1) (k : Fin 2048) :
    row rm (ix2 0 k) = if k = p then (1 : EReal) else 0 := by
  pointwise [row, ho]
  by_cases h : k = p
  · rw [if_pos h, if_pos h]
    show (((((1#1).setWidth 32).toInt : ℤ) : ℝ) : EReal) = 1
    have : ((1#1).setWidth 32).toInt = 1 := by decide
    rw [this]; simp
  · rw [if_neg h, if_neg h]
    show (((((0#1).setWidth 32).toInt : ℤ) : ℝ) : EReal) = 0
    have : ((0#1).setWidth 32).toInt = 0 := by decide
    rw [this]; simp

/-- The rows of the selection, round after round. -/
def rounds (rm : FVec Ideal S1x2048 .f32) : ℕ → FVec Ideal S1x2048 .f32
  | 0 => rm
  | j + 1 => drop (rounds rm j)

/-- Each round picks the sort's next position; what is left is the row without the positions picked. -/
theorem rounds_apply (rm : FVec Ideal S1x2048 .f32) (g : Fin 2048 → EReal) (hrm : ∀ k, rm (ix2 0 k) = g k) (hg : ∀ k, g k ≠ ⊥) :
    ∀ j : ℕ, j < 2048 → ∀ k, rounds rm j (ix2 0 k) = Select.left g j k
  | 0, _, k => by rw [Select.left_zero]; exact hrm k
  | j + 1, hj, k => by
    have ih := rounds_apply rm g hrm hg j (Nat.lt_of_succ_lt hj)
    have ho := oh_apply (rounds rm j) (Select.left g j) ih (Select.pos g ⟨j, Nat.lt_of_succ_lt hj⟩)
      (Select.left_le g ⟨j, _⟩) (Select.left_first g hg ⟨j, _⟩)
    show drop (rounds rm j) (ix2 0 k) = _
    rw [drop_apply _ _ ho, ih]
    exact (Select.left_succ g ⟨j, Nat.lt_of_succ_lt hj⟩ k).symm

/-- The mask of round `j`: one at the sort's position `j`. -/
theorem row_rounds_apply (rm : FVec Ideal S1x2048 .f32) (g : Fin 2048 → EReal) (hrm : ∀ k, rm (ix2 0 k) = g k) (hg : ∀ k, g k ≠ ⊥)
    (j : Fin 2048) (k : Fin 2048) :
    row (rounds rm j.val) (ix2 0 k) = if k = Select.pos g j then (1 : EReal) else 0 :=
  row_apply _ _ (oh_apply (rounds rm j.val) (Select.left g j.val) (rounds_apply rm g hrm hg j.val j.isLt) (Select.pos g j)
    (Select.left_le g j) (Select.left_first g hg j)) k

/-- The eight rows the kernel stores: seven rounds' masks and a row of zeros. -/
def masks (rm : FVec Ideal S1x2048 .f32) : FVec Ideal S8x2048 .f32 :=
  concatenate S8x2048 0 [⟨S1x2048, row (rounds rm 0)⟩, ⟨S1x2048, row (rounds rm 1)⟩, ⟨S1x2048, row (rounds rm 2)⟩,
    ⟨S1x2048, row (rounds rm 3)⟩, ⟨S1x2048, row (rounds rm 4)⟩, ⟨S1x2048, row (rounds rm 5)⟩, ⟨S1x2048, row (rounds rm 6)⟩,
    ⟨S1x2048, broadcast S1x2048 (Scalar.ofBits .f32 0x00000000#32)⟩] concatenates_S1x2048_S1x2048_S1x2048_S1x2048_S1x2048_S1x2048_S1x2048_S1x2048_S8x2048_d0

/-- Read at an index: row `j` below the seventh is one at the sort's position `j` and zero elsewhere, the eighth row is zero. -/
theorem masks_apply (rm : FVec Ideal S1x2048 .f32) (g : Fin 2048 → EReal) (hrm : ∀ k, rm (ix2 0 k) = g k) (hg : ∀ k, g k ≠ ⊥)
    (j : Fin 8) (k : Fin 2048) :
    masks rm (ix2 j k) = if h : j.val < 7 then (if k = Select.pos g ⟨j.val, by omega⟩ then (1 : EReal) else 0) else 0 := by
  have hr := fun i : Fin 2048 => row_rounds_apply rm g hrm hg i k
  match j with
  | ⟨0, _⟩ => pointwise [masks]; exact hr 0
  | ⟨1, _⟩ => pointwise [masks]; exact hr 1
  | ⟨2, _⟩ => pointwise [masks]; exact hr 2
  | ⟨3, _⟩ => pointwise [masks]; exact hr 3
  | ⟨4, _⟩ => pointwise [masks]; exact hr 4
  | ⟨5, _⟩ => pointwise [masks]; exact hr 5
  | ⟨6, _⟩ => pointwise [masks]; exact hr 6
  | ⟨7, _⟩ => pointwise [masks]

/-- The kernel's stored masks are those rounds of its row of maxima. -/
theorem pay21_eq (x0 x1 x2 x3 : Vec Ideal S2048x128 .f32) :
    k3_pay21 (k3_pay23 x0 x1 x2 x3) (k3_pay24 x0 x1 x2 x3) (k3_pay25 x0 x1 x2 x3) (k3_pay28 x0 x1 x2 x3) (k3_pay29 x0 x1 x2 x3)
      (k3_pay30 x0 x1 x2 x3) (k3_pay31 x0 x1 x2 x3) (k3_pay32 x0 x1 x2 x3)
      = masks (k3_pay3 (View.ld x0 r3_0) (View.ld x1 r3_0)) := rfl

end Cert.KernelIdeal.Round

end
-- ==== Proof.Head.lean ====
/-
  What the head kernel's body stores, read at an index: the masks of the selected queries and their projected attention.
-/
module

public import proofs.«01_k».proof.Proof.Round
public import proofs.«01_k».proof.Proof.Spec

@[expose] public section

set_option maxRecDepth 16384

noncomputable section

namespace Cert.KernelIdeal.Head

open Idealize.ShloMosaic Cert.KernelIdeal.Gen Cert.KernelIdeal.Round Idealize.ShloMosaic.Pointwise

/-- The row of maxima of the scores. -/
theorem pay3_apply (q k : Vec Ideal S2048x128 .f32) (l : Fin 2048) :
    k3_pay3 q k (ix2 0 l) = Spec.rowMax (fun l c => q (ix2 l c)) (fun l c => k (ix2 l c)) l := by
  pointwise [k3_pay3, k3_pay2]
  rw [ofBits_ninf]
  rfl

/-- The named scale at the extended reals. -/
theorem scale_eq : Named.named (F := Ideal) κ (φ := .f32) "scale" 0x3DB504F3#32 = Spec.scale := rfl

/-- The attention of the rows named by the masks `M`. -/
theorem pay1_apply (M : FVec Ideal S8x2048 .f32) (q k v w : Vec Ideal S2048x128 .f32) (j : Fin 8) (n : Fin 2048)
   (v10 : IVec S1x2048 32) (v22 v36 v50 v64 v78 v80 : FVec Ideal S1x2048 .f32) (v89 : IVec S1x2048 32)
   (hM : k3_pay21 v10 v22 v36 v50 v64 v78 v80 v89 = M) :
    k3_pay1 (k3_pay22 (k3_pay2 k) v10 v22 v36 v50 v64 v78 v80 v89 q v) w (ix2 j n)
      = ∑ c : Fin 128, Spec.ctxRow (fun c => ∑ l : Fin 2048, M (ix2 j l) * q (ix2 l c)) (fun l c => k (ix2 l c)) (fun l c => v (ix2 l c)) c
          * w (ix2 n c) := by
  pointwise [k3_pay1, k3_pay22, k3_pay2, hM]
  rw [ofBits_ninf, scale_eq]
  rfl

/-- The offset of a whole block's access. -/
theorem off0 : (![0, 0] : Fin 2 → ℕ) = fun _ => 0 := by funext a; fin_cases a <;> rfl

/-- A load of a whole block is the block. -/
theorem ld3 (x : Vec Ideal S2048x128 .f32) : View.ld x r3_0 = x := View.ld_unit_zero off0 _ _

/-- The masks the body stores, at an index. -/
theorem out3_4_apply (q k v w : Vec Ideal S2048x128 .f32)
    (hg : ∀ l, Spec.rowMax (fun l c => q (ix2 l c)) (fun l c => k (ix2 l c)) l ≠ ⊥) (j : Fin 8) (l : Fin 2048) :
    out3_4 q k v w (ix2 j l) = if h : j.val < 7 then
      (if l = Spec.top (fun l c => q (ix2 l c)) (fun l c => k (ix2 l c)) ⟨j.val, h⟩ then (1 : EReal) else 0) else 0 := by
  unfold out3_4
  rw [pay21_eq, ld3, ld3, View.canon_unit_zero off0]
  exact masks_apply _ _ (pay3_apply q k) hg j l

/-- The projected attention the body stores, at an index. -/
theorem out3_5_apply (q k v w : Vec Ideal S2048x128 .f32) (j : Fin 8) (n : Fin 2048) :
    out3_5 q k v w (ix2 j n) = ∑ c : Fin 128, Spec.ctxRow (fun c => ∑ l : Fin 2048, out3_4 q k v w (ix2 j l) * q (ix2 l c))
        (fun l c => k (ix2 l c)) (fun l c => v (ix2 l c)) c * w (ix2 n c) := by
  unfold out3_4 out3_5
  rw [ld3, ld3, ld3, ld3, View.canon_unit_zero off0, View.canon_unit_zero off0]
  exact pay1_apply _ q k v w j n _ _ _ _ _ _ _ _ rfl

end Cert.KernelIdeal.Head

end
-- ==== Proof.Out.lean ====
/-
  The kernel's output as mathematics: the scatter kernel's product of the head kernel's masks and contributions is
  each selected query's attention at its row.
-/
module

public import proofs.«01_k».proof.Proof.Blocks
public import proofs.«01_k».proof.Proof.Head

@[expose] public section

set_option maxRecDepth 16384

noncomputable section

namespace Cert.KernelIdeal.Out

open Idealize.ShloMosaic Idealize.ShloMosaic.TcCoe Cert.KernelIdeal.Gen Idealize.ShloMosaic.Pointwise
open Cert.KernelIdeal.Blocks

/-- An array by row and column. -/
def mat (A : S2048x2048.Idx → EReal) (l n : Fin 2048) : EReal := A (ix2 l n)

/-- A sum over the stacked rows, head by head. -/
theorem sum_stack (f : Fin 128 → EReal) :
    ∑ r : Fin 128, f r = ∑ h : Fin 16, ∑ j : Fin 8, f ⟨h.val * 8 + j.val, by omega⟩ := by
  rw [← Fintype.sum_prod_type' (f := fun (h : Fin 16) (j : Fin 8) => f ⟨h.val * 8 + j.val, by omega⟩)]
  refine (Fintype.sum_equiv (finProdFinEquiv : Fin 16 × Fin 8 ≃ Fin 128) _ _ fun p => ?_).symm
  refine congrArg f (Fin.ext ?_)
  show p.1.val * 8 + p.2.val = p.2.val + 8 * p.1.val
  omega

variable (Q K V Wo : S2048x2048.Idx → EReal)

/-- One stacked row's product, at an output index: the query's attention, projected, where the row's mask is at it. -/
theorem term (hg : ∀ h l, Spec.rowMax (Spec.head (mat Q) h) (Spec.head (mat K) h) l ≠ ⊥) (h : Fin 16) (j : Fin 8) (l n : Fin 2048) :
    out3_4 (hcols Q h) (hcols K h) (hcols V h) (hcols Wo h) (ix2 j l) * out3_5 (hcols Q h) (hcols K h) (hcols V h) (hcols Wo h) (ix2 j n)
      = if hj : j.val < 7 then (if l = Spec.top (Spec.head (mat Q) h) (Spec.head (mat K) h) ⟨j.val, hj⟩ then
          ∑ c : Fin 128, Spec.ctxRow (Spec.head (mat Q) h l) (Spec.head (mat K) h) (Spec.head (mat V) h) c * mat Wo n (Spec.col h c) else 0) else 0 := by
  have hm := Head.out3_4_apply (hcols Q h) (hcols K h) (hcols V h) (hcols Wo h) (hg h) j
  rw [hm l]
  by_cases hj : j.val < 7
  · rw [dif_pos hj, dif_pos hj]
    by_cases hl : l = Spec.top (Spec.head (mat Q) h) (Spec.head (mat K) h) ⟨j.val, hj⟩
    · have e1 : (if l = Spec.top (fun l c => hcols Q h (ix2 l c)) (fun l c => hcols K h (ix2 l c)) ⟨j.val, hj⟩ then (1 : EReal) else 0) = 1 := if_pos hl
      rw [e1, one_mul, if_pos hl, Head.out3_5_apply]
      have e2 : (fun c : Fin 128 => ∑ l' : Fin 2048, out3_4 (hcols Q h) (hcols K h) (hcols V h) (hcols Wo h) (ix2 j l') * hcols Q h (ix2 l' c))
          = Spec.head (mat Q) h l := by
        funext c
        rw [Finset.sum_eq_single l]
        · rw [hm l, dif_pos hj, e1, one_mul]; rfl
        · intro l' _ hne
          rw [hm l', dif_pos hj, if_neg fun e => hne (e.trans hl.symm), zero_mul]
        · intro hn; exact absurd (Finset.mem_univ _) hn
      rw [e2]; rfl
    · have e1 : (if l = Spec.top (fun l c => hcols Q h (ix2 l c)) (fun l c => hcols K h (ix2 l c)) ⟨j.val, hj⟩ then (1 : EReal) else 0) = 0 := if_neg hl
      rw [e1, zero_mul, if_neg hl]
  · rw [dif_neg hj, dif_neg hj, zero_mul]

/-- The scatter kernel's array over the head kernel's is the output of the queries, keys and values. -/
theorem arr4_eq (b : S1x2048.Idx → EReal) (hg : ∀ h l, Spec.rowMax (Spec.head (mat Q) h) (Spec.head (mat K) h) l ≠ ⊥) (l n : Fin 2048) :
    arr4 (arr3_4 Q K V Wo) (arr3_5 Q K V Wo) b (ix2 l n) = Spec.out (mat Q) (mat K) (mat V) (mat Wo) (fun n => b (ix2 0 n)) l n := by
  show (∑ r : Fin 128, arr3_4 Q K V Wo (ix2 r l) * arr3_5 Q K V Wo (ix2 r n)) + b (ix2 0 n) = _ + _
  refine congrArg (· + b (ix2 0 n)) ?_
  rw [sum_stack]
  refine Finset.sum_congr rfl fun h _ => ?_
  have e : ∀ j : Fin 8, arr3_4 Q K V Wo (ix2 ⟨h.val * 8 + j.val, by omega⟩ l) * arr3_5 Q K V Wo (ix2 ⟨h.val * 8 + j.val, by omega⟩ n) = _ := fun j => by
    unfold arr3_4 arr3_5
    rw [stack_apply, stack_apply]
  rw [Finset.sum_congr rfl fun j _ => (e j).trans (term Q K V Wo hg h j l n), Fin.sum_univ_castSucc]
  rw [dif_neg (by decide : ¬ (Fin.last 7).val < 7), add_zero]
  exact Finset.sum_congr rfl fun j _ => dif_pos j.isLt

end Cert.KernelIdeal.Out

end
-- ==== Proof.Proj.lean ====
/-
  The three projections' arrays after their regions: `x·Wᵀ + b` of the arrays each region finds.
-/
module

public import proofs.«01_k».proof.Proof.Gen.KernelIdeal.Frame
public import proofs.«01_k».proof.Proof.Spec
public import Idealize.ShloMosaic.Lib.Pointwise
public import Idealize.ShloMosaic.Lib.Pipeline.Value

@[expose] public section

set_option maxRecDepth 16384

noncomputable section

namespace Cert.KernelIdeal.Proj

open Idealize.ShloMosaic Idealize.ShloMosaic.TcCoe Cert.KernelIdeal.Gen Idealize.ShloMosaic.Pointwise
open Idealize.ShloMosaic.Pipeline (Dat)

/-- The offset of a whole block's access. -/
theorem off0 : (![0, 0] : Fin 2 → ℕ) = fun _ => 0 := by funext a; fin_cases a <;> rfl

/-- The projection of an array's rows, as an array. -/
def arr (x W : S2048x2048.Idx → EReal) (b : S1x2048.Idx → EReal) : S2048x2048.Idx → EReal := fun i =>
  Spec.proj (fun l k => x (ix2 l k)) (fun n k => W (ix2 n k)) (fun n => b (ix2 0 n)) (i 0) (i 1)

/-- The projection of 256 rows, as a block. -/
def blk (x : S256x2048.Idx → EReal) (W : S2048x2048.Idx → EReal) (b : S1x2048.Idx → EReal) : S256x2048.Idx → EReal := fun i =>
  (∑ k : Fin 2048, x (ix2 (i 0) k) * W (ix2 (i 1) k)) + b (ix2 0 (i 1))

variable (V : (c : Dev nD) → (b : Ref sig .tc) → Buf (Elt Ideal) ((c : Thread nD τ).loc b))

/-! ## Region 0 -/

/-- What the body stores is the projection of its blocks. -/
theorem out0_eq (x : Vec Ideal S256x2048 .f32) (w : Vec Ideal S2048x2048 .f32) (b : Vec Ideal S1x2048 .f32) :
    out0_3 x w b = blk x w b := by
  unfold out0_3
  rw [View.ld_unit_zero off0, View.ld_unit_zero off0, View.ld_unit_zero off0, View.canon_unit_zero off0]
  funext i
  idx_vars i
  pointwise [k0_pay1, blk]

/-- The windows' block indices. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 := (by decide +kernel : ∀ t : Fin grid0.N, _)

/-- The bound of the grid. -/
theorem lt0 (t : Fin cfg0.N) : t.val < 8 := (by decide +kernel : ∀ t : Fin grid0.N, t.val < 8) t

theorem emb0_0 (t : Fin cfg0.N) (r : Fin 256) (k : Fin 2048) :
    ((cfg0.win 0).blk t).view.emb (ix2 r k) = (ix2 ⟨t.val * 256 + r.val, by have := lt0 t; omega⟩ k : S2048x2048.Idx) := by
  obtain ⟨e0, e1, _⟩ := idx0 t
  funext a; apply Fin.ext
  match a with
  | ⟨0, _⟩ => show win0_0.index t (0 : Fin 2) * 256 + 1 * r.val = t.val * 256 + r.val; omega
  | ⟨1, _⟩ => show win0_0.index t (1 : Fin 2) * 2048 + 1 * k.val = k.val; omega

theorem emb0_1 (t : Fin cfg0.N) (j : S2048x2048.Idx) : ((cfg0.win 1).blk t).view.emb j = j := by
  obtain ⟨_, _, e0, e1, _⟩ := idx0 t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem emb0_2 (t : Fin cfg0.N) (j : S1x2048.Idx) : ((cfg0.win 2).blk t).view.emb j = j := by
  obtain ⟨_, _, _, _, e0, e1, _⟩ := idx0 t
  funext a; apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega

theorem emb0_3 (t : Fin cfg0.N) (r : Fin 256) (k : Fin 2048) :
    ((cfg0.win 3).blk t).view.emb (ix2 r k) = (ix2 ⟨t.val * 256 + r.val, by have := lt0 t; omega⟩ k : S2048x2048.Idx) := by
  obtain ⟨_, _, _, _, _, _, e0, e1⟩ := idx0 t
  funext a; apply Fin.ext
  match a with
  | ⟨0, _⟩ => show win0_3.index t (0 : Fin 2) * 256 + 1 * r.val = t.val * 256 + r.val; omega
  | ⟨1, _⟩ => show win0_3.index t (1 : Fin 2) * 2048 + 1 * k.val = k.val; omega

/-- What a point writes back is its block of the whole projection. -/
theorem flushed0_eq (c : Dev nD) (t : Fin cfg0.N) :
    (dat0 V c).flushed 3 t = ((cfg0.win 3).blk t).view.read (Elt Ideal) (arr (V c main_v0) (V c main_arg1) (V c main_v1)) := by
  show (cfg0.win 3).cut (grid0.coords t) ((dat0 V c).after 3 t) = _
  rw [after0_3, out0_eq]
  refine funext (α := S256x2048.Idx) fun j => ?_
  obtain ⟨r, n, rfl⟩ : ∃ (r : Fin 256) (n : Fin 2048), j = ix2 r n := ⟨j 0, j 1, ValueIdx.eq_ix2 j⟩
  show blk (iblk0 V c 0 t) (iblk0 V c 1 t) (iblk0 V c 2 t) (ix2 r n) = arr (V c main_v0) (V c main_arg1) (V c main_v1) (((cfg0.win 3).blk t).view.emb (ix2 r n))
  rw [emb0_3]
  have h0 : ∀ k : Fin 2048, iblk0 V c 0 t (ix2 r k) = V c main_v0 (ix2 ⟨t.val * 256 + r.val, by have := lt0 t; omega⟩ k) := fun k =>
    congrArg (V c main_v0) (emb0_0 t r k)
  have h1 : ∀ k : Fin 2048, iblk0 V c 1 t (ix2 n k) = V c main_arg1 (ix2 n k) := fun k => congrArg (V c main_arg1) (emb0_1 t (ix2 n k))
  have h2 : iblk0 V c 2 t (ix2 0 n) = V c main_v1 (ix2 0 n) := congrArg (V c main_v1) (emb0_2 t (ix2 0 n))
  exact congrArg₂ (· + ·) (Finset.sum_congr rfl fun k _ => congrArg₂ (· * ·) (h0 k) (h1 k)) h2

/-- Every index of the array is in some point's block. -/
theorem cover0 (i : S2048x2048.Idx) : ∃ t : Fin cfg0.N, (cfg0.win 3).flush t = true ∧ i ∈ ((cfg0.win 3).blk t).view.set := by
  have hi := (i 0).isLt
  have hi : (i 0).val < 2048 := hi
  obtain ⟨t, ht⟩ : ∃ t : Fin cfg0.N, t.val = (i 0).val / 256 :=
    ⟨⟨(i 0).val / 256, lt_of_lt_of_eq (show (i 0).val / 256 < 8 by omega) (by decide +kernel : 8 = grid0.N)⟩, rfl⟩
  refine ⟨t, flush0_3 t, ?_⟩
  have e : ((cfg0.win 3).blk t).view.emb (ix2 ⟨(i 0).val % 256, Nat.mod_lt _ (by decide)⟩ (i 1) : S256x2048.Idx) = i := by
    refine (emb0_3 t ⟨(i 0).val % 256, Nat.mod_lt _ (by decide)⟩ (i 1)).trans ?_
    funext a; apply Fin.ext
    match a with
    | ⟨0, _⟩ => show t.val * 256 + (i 0).val % 256 = (i 0).val; omega
    | ⟨1, _⟩ => rfl
  exact e ▸ ((cfg0.win 3).blk t).view.emb_mem_set _

/-- The region leaves the projection of the arrays it finds. -/
theorem final0 (c : Dev nD) : (dat0 V c).arrAt 3 cfg0.N = arr (V c main_v0) (V c main_arg1) (V c main_v1) :=
  (dat0 V c).arrAt_eq_of_cover 3 _ (fun t _ => flushed0_eq V c t) cover0

/-! ## Region 1 -/

/-- What the body stores is the projection of its blocks. -/
theorem out1_eq (x : Vec Ideal S256x2048 .f32) (w : Vec Ideal S2048x2048 .f32) (b : Vec Ideal S1x2048 .f32) :
    out1_3 x w b = blk x w b := by
  unfold out1_3
  rw [View.ld_unit_zero off0, View.ld_unit_zero off0, View.ld_unit_zero off0, View.canon_unit_zero off0]
  funext i
  idx_vars i
  pointwise [k1_pay1, blk]

/-- The windows' block indices. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 := (by decide +kernel : ∀ t : Fin grid1.N, _)

/-- The bound of the grid. -/
theorem lt1 (t : Fin cfg1.N) : t.val < 8 := (by decide +kernel : ∀ t : Fin grid1.N, t.val < 8) t

theorem emb1_0 (t : Fin cfg1.N) (r : Fin 256) (k : Fin 2048) :
    ((cfg1.win 0).blk t).view.emb (ix2 r k) = (ix2 ⟨t.val * 256 + r.val, by have := lt1 t; omega⟩ k : S2048x2048.Idx) := by
  obtain ⟨e0, e1, _⟩ := idx1 t
  funext a; apply Fin.ext
  match a with
  | ⟨0, _⟩ => show win1_0.index t (0 : Fin 2) * 256 + 1 * r.val = t.val * 256 + r.val; omega
  | ⟨1, _⟩ => show win1_0.index t (1 : Fin 2) * 2048 + 1 * k.val = k.val; omega

theorem emb1_1 (t : Fin cfg1.N) (j : S2048x2048.Idx) : ((cfg1.win 1).blk t).view.emb j = j := by
  obtain ⟨_, _, e0, e1, _⟩ := idx1 t
  funext a; apply Fin.ext
  match a with
  | ⟨0, _⟩ => show win1_1.index t (0 : Fin 2) * 2048 + 1 * (j 0).val = (j 0).val; omega
  | ⟨1, _⟩ => show win1_1.index t (1 : Fin 2) * 2048 + 1 * (j 1).val = (j 1).val; omega

theorem emb1_2 (t : Fin cfg1.N) (j : S1x2048.Idx) : ((cfg1.win 2).blk t).view.emb j = j := by
  obtain ⟨_, _, _, _, e0, e1, _⟩ := idx1 t
  funext a; apply Fin.ext
  match a with
  | ⟨0, _⟩ => show win1_2.index t (0 : Fin 2) * 1 + 1 * (j 0).val = (j 0).val; omega
  | ⟨1, _⟩ => show win1_2.index t (1 : Fin 2) * 2048 + 1 * (j 1).val = (j 1).val; omega

theorem emb1_3 (t : Fin cfg1.N) (r : Fin 256) (k : Fin 2048) :
    ((cfg1.win 3).blk t).view.emb (ix2 r k) = (ix2 ⟨t.val * 256 + r.val, by have := lt1 t; omega⟩ k : S2048x2048.Idx) := by
  obtain ⟨_, _, _, _, _, _, e0, e1⟩ := idx1 t
  funext a; apply Fin.ext
  match a with
  | ⟨0, _⟩ => show win1_3.index t (0 : Fin 2) * 256 + 1 * r.val = t.val * 256 + r.val; omega
  | ⟨1, _⟩ => show win1_3.index t (1 : Fin 2) * 2048 + 1 * k.val = k.val; omega

/-- What a point writes back is its block of the whole projection. -/
theorem flushed1_eq (c : Dev nD) (t : Fin cfg1.N) :
    (dat1 V c).flushed 3 t = ((cfg1.win 3).blk t).view.read (Elt Ideal) (arr (V c main_v0) (V c main_arg3) (V c main_v3)) := by
  show (cfg1.win 3).cut (grid1.coords t) ((dat1 V c).after 3 t) = _
  rw [after1_3, out1_eq]
  refine funext (α := S256x2048.Idx) fun j => ?_
  obtain ⟨r, n, rfl⟩ : ∃ (r : Fin 256) (n : Fin 2048), j = ix2 r n := ⟨j 0, j 1, ValueIdx.eq_ix2 j⟩
  show blk (iblk1 V c 0 t) (iblk1 V c 1 t) (iblk1 V c 2 t) (ix2 r n) = arr (V c main_v0) (V c main_arg3) (V c main_v3) (((cfg1.win 3).blk t).view.emb (ix2 r n))
  rw [emb1_3]
  have h0 : ∀ k : Fin 2048, iblk1 V c 0 t (ix2 r k) = V c main_v0 (ix2 ⟨t.val * 256 + r.val, by have := lt1 t; omega⟩ k) := fun k =>
    congrArg (V c main_v0) (emb1_0 t r k)
  have h1 : ∀ k : Fin 2048, iblk1 V c 1 t (ix2 n k) = V c main_arg3 (ix2 n k) := fun k => congrArg (V c main_arg3) (emb1_1 t (ix2 n k))
  have h2 : iblk1 V c 2 t (ix2 0 n) = V c main_v3 (ix2 0 n) := congrArg (V c main_v3) (emb1_2 t (ix2 0 n))
  exact congrArg₂ (· + ·) (Finset.sum_congr rfl fun k _ => congrArg₂ (· * ·) (h0 k) (h1 k)) h2

/-- Every index of the array is in some point's block. -/
theorem cover1 (i : S2048x2048.Idx) : ∃ t : Fin cfg1.N, (cfg1.win 3).flush t = true ∧ i ∈ ((cfg1.win 3).blk t).view.set := by
  have hi := (i 0).isLt
  have hi : (i 0).val < 2048 := hi
  obtain ⟨t, ht⟩ : ∃ t : Fin cfg1.N, t.val = (i 0).val / 256 :=
    ⟨⟨(i 0).val / 256, lt_of_lt_of_eq (show (i 0).val / 256 < 8 by omega) (by decide +kernel : 8 = grid1.N)⟩, rfl⟩
  refine ⟨t, flush1_3 t, ?_⟩
  have e : ((cfg1.win 3).blk t).view.emb (ix2 ⟨(i 0).val % 256, Nat.mod_lt _ (by decide)⟩ (i 1) : S256x2048.Idx) = i := by
    refine (emb1_3 t ⟨(i 0).val % 256, Nat.mod_lt _ (by decide)⟩ (i 1)).trans ?_
    funext a; apply Fin.ext
    match a with
    | ⟨0, _⟩ => show t.val * 256 + (i 0).val % 256 = (i 0).val; omega
    | ⟨1, _⟩ => rfl
  exact e ▸ ((cfg1.win 3).blk t).view.emb_mem_set _

/-- The region leaves the projection of the arrays it finds. -/
theorem final1 (c : Dev nD) : (dat1 V c).arrAt 3 cfg1.N = arr (V c main_v0) (V c main_arg3) (V c main_v3) :=
  (dat1 V c).arrAt_eq_of_cover 3 _ (fun t _ => flushed1_eq V c t) cover1

/-! ## Region 2 -/

/-- What the body stores is the projection of its blocks. -/
theorem out2_eq (x : Vec Ideal S256x2048 .f32) (w : Vec Ideal S2048x2048 .f32) (b : Vec Ideal S1x2048 .f32) :
    out2_3 x w b = blk x w b := by
  unfold out2_3
  rw [View.ld_unit_zero off0, View.ld_unit_zero off0, View.ld_unit_zero off0, View.canon_unit_zero off0]
  funext i
  idx_vars i
  pointwise [k2_pay1, blk]

/-- The windows' block indices. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 := (by decide +kernel : ∀ t : Fin grid2.N, _)

/-- The bound of the grid. -/
theorem lt2 (t : Fin cfg2.N) : t.val < 8 := (by decide +kernel : ∀ t : Fin grid2.N, t.val < 8) t

theorem emb2_0 (t : Fin cfg2.N) (r : Fin 256) (k : Fin 2048) :
    ((cfg2.win 0).blk t).view.emb (ix2 r k) = (ix2 ⟨t.val * 256 + r.val, by have := lt2 t; omega⟩ k : S2048x2048.Idx) := by
  obtain ⟨e0, e1, _⟩ := idx2 t
  funext a; apply Fin.ext
  match a with
  | ⟨0, _⟩ => show win2_0.index t (0 : Fin 2) * 256 + 1 * r.val = t.val * 256 + r.val; omega
  | ⟨1, _⟩ => show win2_0.index t (1 : Fin 2) * 2048 + 1 * k.val = k.val; omega

theorem emb2_1 (t : Fin cfg2.N) (j : S2048x2048.Idx) : ((cfg2.win 1).blk t).view.emb j = j := by
  obtain ⟨_, _, e0, e1, _⟩ := idx2 t
  funext a; apply Fin.ext
  match a with
  | ⟨0, _⟩ => show win2_1.index t (0 : Fin 2) * 2048 + 1 * (j 0).val = (j 0).val; omega
  | ⟨1, _⟩ => show win2_1.index t (1 : Fin 2) * 2048 + 1 * (j 1).val = (j 1).val; omega

theorem emb2_2 (t : Fin cfg2.N) (j : S1x2048.Idx) : ((cfg2.win 2).blk t).view.emb j = j := by
  obtain ⟨_, _, _, _, e0, e1, _⟩ := idx2 t
  funext a; apply Fin.ext
  match a with
  | ⟨0, _⟩ => show win2_2.index t (0 : Fin 2) * 1 + 1 * (j 0).val = (j 0).val; omega
  | ⟨1, _⟩ => show win2_2.index t (1 : Fin 2) * 2048 + 1 * (j 1).val = (j 1).val; omega

theorem emb2_3 (t : Fin cfg2.N) (r : Fin 256) (k : Fin 2048) :
    ((cfg2.win 3).blk t).view.emb (ix2 r k) = (ix2 ⟨t.val * 256 + r.val, by have := lt2 t; omega⟩ k : S2048x2048.Idx) := by
  obtain ⟨_, _, _, _, _, _, e0, e1⟩ := idx2 t
  funext a; apply Fin.ext
  match a with
  | ⟨0, _⟩ => show win2_3.index t (0 : Fin 2) * 256 + 1 * r.val = t.val * 256 + r.val; omega
  | ⟨1, _⟩ => show win2_3.index t (1 : Fin 2) * 2048 + 1 * k.val = k.val; omega

/-- What a point writes back is its block of the whole projection. -/
theorem flushed2_eq (c : Dev nD) (t : Fin cfg2.N) :
    (dat2 V c).flushed 3 t = ((cfg2.win 3).blk t).view.read (Elt Ideal) (arr (V c main_v0) (V c main_arg5) (V c main_v5)) := by
  show (cfg2.win 3).cut (grid2.coords t) ((dat2 V c).after 3 t) = _
  rw [after2_3, out2_eq]
  refine funext (α := S256x2048.Idx) fun j => ?_
  obtain ⟨r, n, rfl⟩ : ∃ (r : Fin 256) (n : Fin 2048), j = ix2 r n := ⟨j 0, j 1, ValueIdx.eq_ix2 j⟩
  show blk (iblk2 V c 0 t) (iblk2 V c 1 t) (iblk2 V c 2 t) (ix2 r n) = arr (V c main_v0) (V c main_arg5) (V c main_v5) (((cfg2.win 3).blk t).view.emb (ix2 r n))
  rw [emb2_3]
  have h0 : ∀ k : Fin 2048, iblk2 V c 0 t (ix2 r k) = V c main_v0 (ix2 ⟨t.val * 256 + r.val, by have := lt2 t; omega⟩ k) := fun k =>
    congrArg (V c main_v0) (emb2_0 t r k)
  have h1 : ∀ k : Fin 2048, iblk2 V c 1 t (ix2 n k) = V c main_arg5 (ix2 n k) := fun k => congrArg (V c main_arg5) (emb2_1 t (ix2 n k))
  have h2 : iblk2 V c 2 t (ix2 0 n) = V c main_v5 (ix2 0 n) := congrArg (V c main_v5) (emb2_2 t (ix2 0 n))
  exact congrArg₂ (· + ·) (Finset.sum_congr rfl fun k _ => congrArg₂ (· * ·) (h0 k) (h1 k)) h2

/-- Every index of the array is in some point's block. -/
theorem cover2 (i : S2048x2048.Idx) : ∃ t : Fin cfg2.N, (cfg2.win 3).flush t = true ∧ i ∈ ((cfg2.win 3).blk t).view.set := by
  have hi := (i 0).isLt
  have hi : (i 0).val < 2048 := hi
  obtain ⟨t, ht⟩ : ∃ t : Fin cfg2.N, t.val = (i 0).val / 256 :=
    ⟨⟨(i 0).val / 256, lt_of_lt_of_eq (show (i 0).val / 256 < 8 by omega) (by decide +kernel : 8 = grid2.N)⟩, rfl⟩
  refine ⟨t, flush2_3 t, ?_⟩
  have e : ((cfg2.win 3).blk t).view.emb (ix2 ⟨(i 0).val % 256, Nat.mod_lt _ (by decide)⟩ (i 1) : S256x2048.Idx) = i := by
    refine (emb2_3 t ⟨(i 0).val % 256, Nat.mod_lt _ (by decide)⟩ (i 1)).trans ?_
    funext a; apply Fin.ext
    match a with
    | ⟨0, _⟩ => show t.val * 256 + (i 0).val % 256 = (i 0).val; omega
    | ⟨1, _⟩ => rfl
  exact e ▸ ((cfg2.win 3).blk t).view.emb_mem_set _

/-- The region leaves the projection of the arrays it finds. -/
theorem final2 (c : Dev nD) : (dat2 V c).arrAt 3 cfg2.N = arr (V c main_v0) (V c main_arg5) (V c main_v5) :=
  (dat2 V c).arrAt_eq_of_cover 3 _ (fun t _ => flushed2_eq V c t) cover2

end Cert.KernelIdeal.Proj

end
-- ==== Proof.KernelRun.lean ====
/-
  The kernel's run with its result: every weakly fair execution ends with the arguments as launched and the result at
  the output of the projections.
-/
module

public import proofs.«01_k».proof.Proof.Out
public import proofs.«01_k».proof.Proof.Proj
public import Idealize.ShloMosaic.Lib.StableHlo.RunRead

@[expose] public section

set_option maxRecDepth 16384

noncomputable section

namespace Cert.KernelIdeal.KernelRun

open Idealize.ShloMosaic Idealize.ShloMosaic.TcCoe Cert.KernelIdeal.Gen Idealize.ShloMosaic.Pointwise
open Cert.KernelIdeal.Blocks Cert.KernelIdeal.Proj

variable (m : (x : Loc nD τ sig) → Buf (Elt Ideal) x) (ρ : Dev nD → PrngReg) (c : Dev nD)

/-! ## The host's arrays -/

/-- A bias as an array of one row. -/
def biasRow (b : S2048.Idx → EReal) : S1x2048.Idx → EReal := broadcastInDim S1x2048 ![1] bcast_S2048_S1x2048_1 b

/-- The input with its batch dropped. -/
def rows (A : S1x2048x2048.Idx → EReal) : S2048x2048.Idx → EReal := shapeCast S2048x2048 A shapeCasts_S1x2048x2048_S2048x2048

theorem W1_v0 : W1 m ρ c (Proc.devRef .tc main_v0) = rows (m ((c : Thread nD τ).loc main_arg0)) := by
  after_reads_simp; rfl
theorem W1_v1 : W1 m ρ c (Proc.devRef .tc main_v1) = biasRow (m ((c : Thread nD τ).loc main_arg2)) := by
  after_reads_simp; rfl
theorem W3_v3 : W3 m ρ c (Proc.devRef .tc main_v3) = biasRow (m ((c : Thread nD τ).loc main_arg4)) := by
  rw [← W2_args m ρ c main_arg4 (by decide)]
  after_reads_simp; rfl
theorem W5_v5 : W5 m ρ c (Proc.devRef .tc main_v5) = biasRow (m ((c : Thread nD τ).loc main_arg6)) := by
  rw [← W4_args m ρ c main_arg6 (by decide)]
  after_reads_simp; rfl
theorem W8_v8 : W8 m ρ c (Proc.devRef .tc main_v8) = biasRow (m ((c : Thread nD τ).loc main_arg8)) := by
  rw [← W7_args m ρ c main_arg8 (by decide)]
  after_reads_simp; rfl
theorem W10_v10 : W10 m ρ c (Proc.devRef .tc main_v10) = shapeCast S1x2048x2048 (W9 m ρ c (Proc.devRef .tc main_v9)) shapeCasts_S2048x2048_S1x2048x2048 := by
  after_reads_simp; rfl

/-- The inputs' rows are the same array at each projection. -/
theorem W3_v0 : W3 m ρ c (Proc.devRef .tc main_v0) = W1 m ρ c (Proc.devRef .tc main_v0) :=
  (W3_of m ρ c main_v0 (by decide)).trans (W2_of m ρ c main_v0 (by decide +kernel))
theorem W5_v0 : W5 m ρ c (Proc.devRef .tc main_v0) = W1 m ρ c (Proc.devRef .tc main_v0) :=
  (W5_of m ρ c main_v0 (by decide)).trans ((W4_of m ρ c main_v0 (by decide +kernel)).trans (W3_v0 m ρ c))

/-! ## The projections -/

/-- The three projections of the launch's arguments. -/
def Qm : S2048x2048.Idx → EReal := arr (rows (m ((c : Thread nD τ).loc main_arg0))) (m ((c : Thread nD τ).loc main_arg1)) (biasRow (m ((c : Thread nD τ).loc main_arg2)))
def Km : S2048x2048.Idx → EReal := arr (rows (m ((c : Thread nD τ).loc main_arg0))) (m ((c : Thread nD τ).loc main_arg3)) (biasRow (m ((c : Thread nD τ).loc main_arg4)))
def Vm : S2048x2048.Idx → EReal := arr (rows (m ((c : Thread nD τ).loc main_arg0))) (m ((c : Thread nD τ).loc main_arg5)) (biasRow (m ((c : Thread nD τ).loc main_arg6)))

theorem W2_v2 : W2 m ρ c (Proc.devRef .tc main_v2) = Qm m c := by
  refine (W2_arr m ρ c 3).trans ((final0 (V1 m ρ) c).trans ?_)
  show arr (W1 m ρ c (Proc.devRef .tc main_v0)) (W1 m ρ c (Proc.devRef .tc main_arg1)) (W1 m ρ c (Proc.devRef .tc main_v1)) = _
  rw [W1_args m ρ c main_arg1 (by decide), W1_v1, W1_v0]; rfl
theorem W4_v4 : W4 m ρ c (Proc.devRef .tc main_v4) = Km m c := by
  refine (W4_arr m ρ c 3).trans ((final1 (V3 m ρ) c).trans ?_)
  show arr (W3 m ρ c (Proc.devRef .tc main_v0)) (W3 m ρ c (Proc.devRef .tc main_arg3)) (W3 m ρ c (Proc.devRef .tc main_v3)) = _
  rw [W3_args m ρ c main_arg3 (by decide), W3_v3, W3_v0, W1_v0]; rfl
theorem W6_v6 : W6 m ρ c (Proc.devRef .tc main_v6) = Vm m c := by
  refine (W6_arr m ρ c 3).trans ((final2 (V5 m ρ) c).trans ?_)
  show arr (W5 m ρ c (Proc.devRef .tc main_v0)) (W5 m ρ c (Proc.devRef .tc main_arg5)) (W5 m ρ c (Proc.devRef .tc main_v5)) = _
  rw [W5_args m ρ c main_arg5 (by decide), W5_v5, W5_v0, W1_v0]; rfl
theorem W6_v2 : W6 m ρ c (Proc.devRef .tc main_v2) = Qm m c :=
  (W6_of m ρ c main_v2 (by decide +kernel)).trans ((W5_of m ρ c main_v2 (by decide)).trans
    ((W4_of m ρ c main_v2 (by decide +kernel)).trans ((W3_of m ρ c main_v2 (by decide)).trans (W2_v2 m ρ c))))
theorem W6_v4 : W6 m ρ c (Proc.devRef .tc main_v4) = Km m c :=
  (W6_of m ρ c main_v4 (by decide +kernel)).trans ((W5_of m ρ c main_v4 (by decide)).trans (W4_v4 m ρ c))

/-! ## The heads and the output -/

theorem W7_v7_0 : W7 m ρ c (Proc.devRef .tc main_v7_0) = arr3_4 (Qm m c) (Km m c) (Vm m c) (m ((c : Thread nD τ).loc main_arg7)) := by
  refine (W7_arr m ρ c 4).trans ((final3_4 (V6 m ρ) c).trans ?_)
  show arr3_4 (W6 m ρ c (Proc.devRef .tc main_v2)) (W6 m ρ c (Proc.devRef .tc main_v4)) (W6 m ρ c (Proc.devRef .tc main_v6)) (W6 m ρ c (Proc.devRef .tc main_arg7)) = _
  rw [W6_v2, W6_v4, W6_v6, W6_args m ρ c main_arg7 (by decide)]
theorem W7_v7_1 : W7 m ρ c (Proc.devRef .tc main_v7_1) = arr3_5 (Qm m c) (Km m c) (Vm m c) (m ((c : Thread nD τ).loc main_arg7)) := by
  refine (W7_arr m ρ c 5).trans ((final3_5 (V6 m ρ) c).trans ?_)
  show arr3_5 (W6 m ρ c (Proc.devRef .tc main_v2)) (W6 m ρ c (Proc.devRef .tc main_v4)) (W6 m ρ c (Proc.devRef .tc main_v6)) (W6 m ρ c (Proc.devRef .tc main_arg7)) = _
  rw [W6_v2, W6_v4, W6_v6, W6_args m ρ c main_arg7 (by decide)]
theorem W9_v9 : W9 m ρ c (Proc.devRef .tc main_v9)
    = arr4 (arr3_4 (Qm m c) (Km m c) (Vm m c) (m ((c : Thread nD τ).loc main_arg7)))
        (arr3_5 (Qm m c) (Km m c) (Vm m c) (m ((c : Thread nD τ).loc main_arg7)))
        (biasRow (m ((c : Thread nD τ).loc main_arg8))) := by
  refine (W9_arr m ρ c 3).trans ((final4 (V8 m ρ) c).trans ?_)
  show arr4 (W8 m ρ c (Proc.devRef .tc main_v7_0)) (W8 m ρ c (Proc.devRef .tc main_v7_1)) (W8 m ρ c (Proc.devRef .tc main_v8)) = _
  rw [W8_of m ρ c main_v7_0 (by decide), W8_of m ρ c main_v7_1 (by decide), W7_v7_0, W7_v7_1, W8_v8]

/-! ## The projections and the output, entry by entry -/

/-- The inputs' rows. -/
def xs (l k : Fin 2048) : EReal := m ((c : Thread nD τ).loc main_arg0) (ix3 (0 : Fin 1) l k)
/-- A square argument by row and column. -/
def sq (A : S2048x2048.Idx → EReal) (l k : Fin 2048) : EReal := A (ix2 l k)
/-- A bias by column. -/
def vec (b : S2048.Idx → EReal) (n : Fin 2048) : EReal := b (ix1 n)

theorem rows_apply (A : S1x2048x2048.Idx → EReal) (l k : Fin 2048) : rows A (ix2 l k) = A (ix3 (0 : Fin 1) l k) := by
  pointwise [rows]
theorem row_apply (b : S2048.Idx → EReal) (n : Fin 2048) :
    biasRow b (ix2 0 n) = vec b n := by
  pointwise [biasRow, vec]
theorem arr_mat (X : S1x2048x2048.Idx → EReal) (A : S2048x2048.Idx → EReal) (b : S2048.Idx → EReal) :
    Out.mat (arr (rows X) A (biasRow b)) = Spec.proj (fun l k => X (ix3 (0 : Fin 1) l k)) (sq A) (vec b) := by
  funext l n
  show (∑ k : Fin 2048, rows X (ix2 l k) * A (ix2 n k)) + biasRow b (ix2 0 n) = _
  rw [row_apply]
  exact congrArg (· + vec b n) (Finset.sum_congr rfl fun k _ => congrArg (· * A (ix2 n k)) (rows_apply X l k))

/-- The queries, keys and values of the launch's arguments. -/
def Qs : Fin 2048 → Fin 2048 → EReal := Spec.proj (xs m c) (sq (m ((c : Thread nD τ).loc main_arg1))) (vec (m ((c : Thread nD τ).loc main_arg2)))
def Ks : Fin 2048 → Fin 2048 → EReal := Spec.proj (xs m c) (sq (m ((c : Thread nD τ).loc main_arg3))) (vec (m ((c : Thread nD τ).loc main_arg4)))
def Vs : Fin 2048 → Fin 2048 → EReal := Spec.proj (xs m c) (sq (m ((c : Thread nD τ).loc main_arg5))) (vec (m ((c : Thread nD τ).loc main_arg6)))

/-- The result holds the output of the projections. -/
theorem value (hg : ∀ h l, Spec.rowMax (Spec.head (Qs m c) h) (Spec.head (Ks m c) h) l ≠ ⊥) (l n : Fin 2048) :
    W10 m ρ c (Proc.devRef .tc main_v10) (ix3 (0 : Fin 1) l n)
      = Spec.out (Qs m c) (Ks m c) (Vs m c) (sq (m ((c : Thread nD τ).loc main_arg7))) (vec (m ((c : Thread nD τ).loc main_arg8))) l n := by
  rw [W10_v10]
  have e : shapeCast S1x2048x2048 (W9 m ρ c (Proc.devRef .tc main_v9)) shapeCasts_S2048x2048_S1x2048x2048 (ix3 (0 : Fin 1) l n)
      = W9 m ρ c (Proc.devRef .tc main_v9) (ix2 l n) := by
    generalize W9 m ρ c (Proc.devRef .tc main_v9) = A
    pointwise []
  rw [e, W9_v9]
  have eQ : Out.mat (Qm m c) = Qs m c := arr_mat _ _ _
  have eK : Out.mat (Km m c) = Ks m c := arr_mat _ _ _
  have eV : Out.mat (Vm m c) = Vs m c := arr_mat _ _ _
  rw [Out.arr4_eq _ _ _ _ _ (by rw [eQ, eK]; exact hg), eQ, eK, eV]
  refine congrArg (fun b => Spec.out (Qs m c) (Ks m c) (Vs m c) _ b l n) (funext fun n => ?_)
  exact row_apply _ n

end Cert.KernelIdeal.KernelRun

end
-- ==== Proof.RefProj.lean ====
/-
  The reference's projections and scores, entry by entry.
-/
module

public import proofs.«01_k».proof.Proof.Gen.ReferenceIdeal.Read
public import proofs.«01_k».proof.Proof.Spec
public import proofs.«01_k».proof.Proof.Round
public import Idealize.ShloMosaic.Lib.Pointwise

@[expose] public section

set_option maxRecDepth 16384

noncomputable section

namespace Cert.ReferenceIdeal.RefProj

open Idealize.ShloMosaic Idealize.ShloMosaic.TcCoe Cert.ReferenceIdeal.Gen Cert.ReferenceIdeal.Read Idealize.ShloMosaic.Pointwise

/-- The inputs' rows. -/
def xs (x : S1x2048x2048.Idx → EReal) (l k : Fin 2048) : EReal := x (ix3 (0 : Fin 1) l k)
/-- A square argument by row and column. -/
def sq (A : S2048x2048.Idx → EReal) (l k : Fin 2048) : EReal := A (ix2 l k)
/-- A bias by column. -/
def vec (b : S2048.Idx → EReal) (n : Fin 2048) : EReal := b (ix1 n)

/-- A projection of the arguments. -/
def pr (x : S1x2048x2048.Idx → EReal) (W : S2048x2048.Idx → EReal) (b : S2048.Idx → EReal) : Fin 2048 → Fin 2048 → EReal :=
  Spec.proj (xs x) (sq W) (vec b)

variable (x0 : S1x2048x2048.Idx → EReal) (x1 x3 x5 x7 : S2048x2048.Idx → EReal) (x2 x4 x6 x8 : S2048.Idx → EReal)

theorem v4_apply (l n : Fin 2048) : val_main_v4 (F := Ideal) x0 x1 x2 (ix3 (0 : Fin 1) l n) = pr x0 x1 x2 l n := by
  pointwise [val_main_v4, val_main_v3, val_main_v2, val_main_v1, val_main_v0, pr, Spec.proj, xs, sq, vec]
theorem v6_apply (h : Fin 16) (l : Fin 2048) (c : Fin 128) :
    val_main_v6 (F := Ideal) x0 x1 x2 (ix4 (0 : Fin 1) h l c) = Spec.head (pr x0 x1 x2) h l c := by
  have e : val_main_v6 (F := Ideal) x0 x1 x2 (ix4 (0 : Fin 1) h l c) = val_main_v4 (F := Ideal) x0 x1 x2 (ix3 (0 : Fin 1) l (Spec.col h c)) := by
    unfold val_main_v6 val_main_v5
    generalize val_main_v4 (F := Ideal) x0 x1 x2 = A
    pointwise [Spec.col]
  exact e.trans (v4_apply x0 x1 x2 l _)
theorem v13_eq : val_main_v13 (F := Ideal) x0 x3 x4 = val_main_v6 (F := Ideal) x0 x3 x4 := rfl
theorem v20_eq : val_main_v20 (F := Ideal) x0 x5 x6 = val_main_v6 (F := Ideal) x0 x5 x6 := rfl

/-- The pattern of the head's width is the real 128. -/
theorem ofBits_width : Ideal.ofBits .f32 0x43000000#32 = ((128 : ℝ) : EReal) := by
  simp [Ideal.ofBits, Ideal.ieee, -EReal.coe_mul]; norm_num

/-- One over the root of the head's width. -/
theorem v22_eq (i : S_.Idx) : val_main_v22 (F := Ideal) i = Spec.scale := by
  pointwise [val_main_v22, val_main_v21, val_main_cst, val_main_cst_0]
  rw [ofBits_width, Ideal.sqrt_coe, if_neg (by norm_num), Ideal.div_coe (Real.sqrt_pos.mpr (by norm_num)).ne', one_mul, one_div]
  rfl

theorem v23_apply (h : Fin 16) (l m : Fin 2048) : val_main_v23 (F := Ideal) x0 x1 x2 x3 x4 (ix4 (0 : Fin 1) h l m)
    = ∑ c : Fin 128, Spec.head (pr x0 x1 x2) h l c * Spec.head (pr x0 x3 x4) h m c := by
  have e : ∀ A B : S1x16x2048x128.Idx → EReal, Host.dotGeneral (F := Ideal) (φ₁ := .f32) (φ₂ := .f32) dot_S1x16x2048x128_S1x16x2048x128_S1x16x2048x2048_3_3_2_2_01_01 none A B (ix4 (0 : Fin 1) h l m)
      = ∑ c : Fin 128, A (ix4 (0 : Fin 1) h l c) * B (ix4 (0 : Fin 1) h m c) := fun A B => by pointwise []
  unfold val_main_v23
  rw [e]
  exact Finset.sum_congr rfl fun c _ => congrArg₂ (· * ·) (v6_apply x0 x1 x2 h l c) (v6_apply x0 x3 x4 h m c)

theorem v26_apply (h : Fin 16) (l : Fin 2048) : val_main_v26 (F := Ideal) x0 x1 x2 x3 x4 (ix3 (0 : Fin 1) h l)
    = Finset.univ.fold max ⊥ fun m : Fin 2048 => (∑ c : Fin 128, Spec.head (pr x0 x1 x2) h l c * Spec.head (pr x0 x3 x4) h m c) * Spec.scale := by
  have e : ∀ A : S1x16x2048x2048.Idx → EReal, Host.reduce (FloatOps.maximumf (F := Ideal) (φ := .f32)) A (val_main_cst_1 (F := Ideal)) reducesTo_S1x16x2048x2048_S1x16x2048_d3 h_S_ (ix3 (0 : Fin 1) h l)
      = Finset.univ.fold max ⊥ fun m : Fin 2048 => A (ix4 (0 : Fin 1) h l m) := fun A => by
    pointwise [val_main_cst_1]
    rw [KernelIdeal.Round.ofBits_ninf]
  unfold val_main_v26
  rw [e]
  refine congrArg (Finset.univ.fold max ⊥) (funext fun m => ?_)
  show val_main_v23 (F := Ideal) x0 x1 x2 x3 x4 (ix4 (0 : Fin 1) h l m) * val_main_v24 (F := Ideal) (ix4 (0 : Fin 1) h l m) = _
  rw [v23_apply, val_main_v24_apply, v22_eq]

end Cert.ReferenceIdeal.RefProj

end
-- ==== Proof.RefTop.lean ====
/-
  The reference's selection: the positions of its seven greatest scaled row maxima are the specification's.
-/
module

public import proofs.«01_k».proof.Proof.RefProj

@[expose] public section

set_option maxRecDepth 16384

noncomputable section

namespace Cert.Spec

/-- The scale is a positive real with an inverse. -/
theorem scale_pos : (0 : EReal) < scale := EReal.coe_pos.mpr (inv_pos.mpr (Real.sqrt_pos.mpr (by norm_num)))

/-- What undoes the scale. -/
def unscale : EReal := ((Real.sqrt 128 : ℝ) : EReal)

theorem scale_unscale : scale * unscale = 1 := by
  unfold scale unscale
  rw [← EReal.coe_mul, inv_mul_cancel₀ (Real.sqrt_pos.mpr (by norm_num)).ne']
  rfl

/-- Scaling keeps the order. -/
theorem mul_scale_le {a b : EReal} : a * scale ≤ b * scale ↔ a ≤ b := by
  constructor
  · intro h
    have h1 := mul_le_mul_of_nonneg_right h (show (0 : EReal) ≤ unscale from EReal.coe_nonneg.mpr (Real.sqrt_nonneg _))
    rwa [mul_assoc, mul_assoc, scale_unscale, mul_one, mul_one] at h1
  · intro h
    exact mul_le_mul_of_nonneg_right h scale_pos.le

theorem mul_scale_lt {a b : EReal} : a * scale < b * scale ↔ a < b := by
  rw [← not_le, ← not_le, mul_scale_le]

/-- The greatest of scaled entries is the greatest, scaled. -/
theorem fold_max_scale {ι : Type} (s : Finset ι) (f : ι → EReal) : s.fold max ⊥ (fun m => f m * scale) = s.fold max ⊥ f * scale := by
  classical
  have hm : ∀ a b : EReal, max a b * scale = max (a * scale) (b * scale) := fun a b => by
    rcases le_total a b with h | h
    · rw [max_eq_right h, max_eq_right (mul_scale_le.mpr h)]
    · rw [max_eq_left h, max_eq_left (mul_scale_le.mpr h)]
  have hb : (⊥ : EReal) * scale = ⊥ := EReal.bot_mul_of_pos scale_pos
  conv_lhs => rw [← hb]
  exact Finset.fold_hom (op' := max) (m := fun a : EReal => a * scale) hm

/-- The sort's places are the same for the scaled row maxima. -/
theorem pos_scaled (q k : Fin 2048 → Fin 128 → EReal) :
    Select.pos (fun l => Finset.univ.fold max ⊥ fun m : Fin 2048 => (∑ c : Fin 128, q l c * k m c) * scale) = Select.pos (rowMax q k) :=
  Select.pos_congr _ _ fun a b => by
    rw [fold_max_scale, fold_max_scale]
    exact mul_scale_lt

end Cert.Spec

namespace Cert.ReferenceIdeal.RefTop

open Idealize.ShloMosaic Idealize.ShloMosaic.TcCoe Cert.ReferenceIdeal.Gen Cert.ReferenceIdeal.Read Idealize.ShloMosaic.Pointwise
open Cert.ReferenceIdeal.RefProj

variable (x0 : S1x2048x2048.Idx → EReal) (x1 x3 x5 x7 : S2048x2048.Idx → EReal) (x2 x4 x6 x8 : S2048.Idx → EReal)

/-- A position along the last axis. -/
theorem along_apply (h : Fin 16) (j k : Fin 2048) :
    (ix3 (0 : Fin 1) h j : S1x16x2048.Idx).along (2 : Fin 3) k = ix3 (0 : Fin 1) h k := by
  funext a
  fin_cases a <;> rfl

/-- A sort's second array is the operand's at the sorted place. -/
theorem sort2_snd (s : Shape) (d : ℕ) (hd : d < s.rank) {α β : Type} (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- The sort's order on the ideal values. -/
theorem gt_eq (f : Fin 2048 → EReal) :
    (fun k k' : Fin 2048 => (FloatOps.cmpfTotal (F := Ideal) (φ := .f32) .gt (f k) (f k') == 1#1)) = Select.gtB f := by
  funext k k'
  show (BitVec.ofBool (decide (f k' < f k)) == 1#1) = decide (f k' < f k)
  cases decide (f k' < f k) <;> rfl

/-- The positions of an array's greatest entries along its last axis. -/
theorem topK_apply (A : S1x16x2048.Idx → EReal) (h : Fin 16) (j : Fin 7) :
    (Host.topK S1x16x7 2 (FloatOps.cmpfTotal (F := Ideal) (φ := .f32) .gt) A sliceFits_S1x16x2048_S1x16x7).2 (ix3 (0 : Fin 1) h j)
      = KernelIdeal.Round.word (Select.pos (fun l => A (ix3 (0 : Fin 1) h l)) ⟨j.val, by omega⟩) := by
  unfold Select.pos
  rw [← gt_eq]
  have e : ∀ (a : S1x16x2048.Idx), a = ix3 (0 : Fin 1) h ⟨j.val, by omega⟩ →
      (Host.sort2 S1x16x2048 2 (fun l r => FloatOps.cmpfTotal (F := Ideal) (φ := .f32) .gt l.1 r.1) A
        (fun i => if hd : 2 < S1x16x2048.rank then iotaInDim S1x16x2048 32 ⟨2, hd⟩ i else 0#32)).2 a
      = KernelIdeal.Round.word (sortedFrom (fun k k' : Fin 2048 => (FloatOps.cmpfTotal (F := Ideal) (φ := .f32) .gt (A (ix3 (0 : Fin 1) h k)) (A (ix3 (0 : Fin 1) h k')) == 1#1)) ⟨j.val, by omega⟩) := by
    rintro a rfl
    rw [sort2_snd _ _ (by decide)]
    have e1 : ∀ p : Fin 2048, (if hd : 2 < S1x16x2048.rank then iotaInDim S1x16x2048 32 ⟨2, hd⟩
        ((ix3 (0 : Fin 1) h (⟨j.val, by omega⟩ : Fin 2048) : S1x16x2048.Idx).along (2 : Fin 3) p) else 0#32) = KernelIdeal.Round.word p := fun p => by
      rw [along_apply, dif_pos (by decide)]
      rfl
    refine (e1 _).trans (congrArg (fun B => KernelIdeal.Round.word (sortedFrom B (⟨j.val, by omega⟩ : Fin 2048))) (funext fun k => funext fun k' => ?_))
    exact congrArg₂ (fun a b => FloatOps.cmpfTotal (F := Ideal) (φ := .f32) .gt (A a) (A b) == 1#1) (along_apply h _ k) (along_apply h _ k')
  exact e _ (by funext a; apply Fin.ext; fin_cases a <;> exact Nat.zero_add _)

/-- The reference's selected positions. -/
theorem indices_apply (h : Fin 16) (j : Fin 7) : val_main_indices (F := Ideal) x0 x1 x2 x3 x4 (ix3 (0 : Fin 1) h j)
    = KernelIdeal.Round.word (Spec.top (Spec.head (pr x0 x1 x2) h) (Spec.head (pr x0 x3 x4) h) j) := by
  unfold val_main_indices Spec.top
  rw [topK_apply, ← Spec.pos_scaled]
  refine congrArg (fun f => KernelIdeal.Round.word (Select.pos f _)) (funext fun l => ?_)
  exact v26_apply x0 x1 x3 x2 x4 h l

end Cert.ReferenceIdeal.RefTop

end
-- ==== Proof.RefRows.lean ====
/-
  The reference's gather and scatter of rows, entry by entry.
-/
module

public import proofs.«01_k».proof.Proof.RefTop

@[expose] public section

set_option maxRecDepth 16384

noncomputable section

namespace Cert.ReferenceIdeal.RefRows

open Idealize.ShloMosaic Idealize.ShloMosaic.TcCoe Cert.ReferenceIdeal.Gen Cert.ReferenceIdeal.Read Idealize.ShloMosaic.Pointwise
open Cert.ReferenceIdeal.RefProj

/-! ## The gather -/

/-- The gather's dimension numbers. -/
abbrev D := gather_S1x16x2048x128_S16x7x1_S1x16x7x128_03_2_1_0_2_2_111128

/-- The gather reads the row its start index names. -/
theorem gather_apply (A : S1x16x2048x128.Idx → EReal) (I : IVec S16x7x1 32) (h : Fin 16) (j : Fin 7) (c : Fin 128) (p : Fin 2048)
    (hp : I (ix3 h j (0 : Fin 1)) = BitVec.ofNat 32 p.val) :
    Host.gather D A I (ix4 (0 : Fin 1) h j c) = A (ix4 (0 : Fin 1) h p c) := by
  unfold Host.gather
  refine congrArg A (funext fun a => Fin.ext ?_)
  show D.start _ I a + D.batchCoord _ a + D.offCoord _ a = _
  match a with
  | ⟨0, _⟩ =>
    show D.start _ I (0 : Fin 4) + D.batchCoord _ (0 : Fin 4) + D.offCoord _ (0 : Fin 4) = 0
    rw [GatherDims.batchCoord_eq_zero _ _ _ (show (0 : Fin 4) ∉ D.operandBatchingDims by decide)]
    unfold GatherDims.start
    rw [dif_neg (show (0 : Fin 4) ∉ D.startIndexMap by decide)]
    have e := GatherDims.offCoord_lt D (ix4 (0 : Fin 1) h j c) (0 : Fin 4) (by decide)
    have e : GatherDims.offCoord D (ix4 (0 : Fin 1) h j c) (0 : Fin 4) < 1 := e
    show 0 + 0 + GatherDims.offCoord D (ix4 (0 : Fin 1) h j c) (0 : Fin 4) = 0
    omega
  | ⟨1, _⟩ =>
    show D.start _ I (1 : Fin 4) + D.batchCoord _ (1 : Fin 4) + D.offCoord _ (1 : Fin 4) = h.val
    rw [GatherDims.offCoord_eq_zero _ _ _ (show (1 : Fin 4) ∉ D.sKept by decide)]
    unfold GatherDims.start GatherDims.batchCoord
    rw [dif_neg (show (1 : Fin 4) ∉ D.startIndexMap by decide), dif_pos (show (1 : Fin 4) ∈ D.operandBatchingDims by decide)]
    unfold GatherDims.siCoord
    show 0 + h.val + 0 = h.val
    omega
  | ⟨2, _⟩ =>
    show D.start _ I (2 : Fin 4) + D.batchCoord _ (2 : Fin 4) + D.offCoord _ (2 : Fin 4) = p.val
    rw [GatherDims.offCoord_eq_zero _ _ _ (show (2 : Fin 4) ∉ D.sKept by decide), GatherDims.batchCoord_eq_zero _ _ _ (show (2 : Fin 4) ∉ D.operandBatchingDims by decide)]
    unfold GatherDims.start
    rw [dif_pos (show (2 : Fin 4) ∈ D.startIndexMap by decide)]
    have e : D.siIdx (ix4 (0 : Fin 1) h j c) ⟨List.idxOf (2 : Fin 4) D.startIndexMap, List.idxOf_lt_length_iff.2 (by decide)⟩ = ix3 h j (0 : Fin 1) := by
      funext b
      refine Fin.ext ?_
      match b with
      | ⟨0, _⟩ => rfl
      | ⟨1, _⟩ => rfl
      | ⟨2, _⟩ => rfl
    have e1 : (I (D.siIdx (ix4 (0 : Fin 1) h j c) ⟨List.idxOf (2 : Fin 4) D.startIndexMap, List.idxOf_lt_length_iff.2 (by decide)⟩)).toInt = (p.val : ℤ) := by
      rw [e, hp]
      exact KernelIdeal.Round.word_toInt p
    show min (I (D.siIdx (ix4 (0 : Fin 1) h j c) ⟨List.idxOf (2 : Fin 4) D.startIndexMap, List.idxOf_lt_length_iff.2 (by decide)⟩)).toInt.toNat (2048 - 1) + 0 + 0 = p.val
    rw [e1]
    show min ((p.val : ℤ).toNat) 2047 + 0 + 0 = p.val
    omega
  | ⟨3, _⟩ =>
    show D.start _ I (3 : Fin 4) + D.batchCoord _ (3 : Fin 4) + D.offCoord _ (3 : Fin 4) = c.val
    rw [GatherDims.batchCoord_eq_zero _ _ _ (show (3 : Fin 4) ∉ D.operandBatchingDims by decide)]
    unfold GatherDims.start GatherDims.offCoord
    rw [dif_neg (show (3 : Fin 4) ∉ D.startIndexMap by decide), dif_pos (show (3 : Fin 4) ∈ D.sKept by decide)]
    show 0 + 0 + c.val = c.val
    omega
/-! ## The scatter -/

/-- A line of writes, read at a place: what the writes that land there agree on, or what was there. -/
theorem foldl_writes {ι I : Type} {α : Type} (step : (I → α) → ι → I → α) (lands : ι → Prop) (upd : ι → α) (i : I) (v : α)
    (hit : ∀ r n, lands n → step r n i = upd n) (miss : ∀ r n, ¬ lands n → step r n i = r i) :
    ∀ (L : List ι) (x : I → α), (∀ n ∈ L, lands n → upd n = v) → (x i = v ∨ ∃ n ∈ L, lands n) → L.foldl step x i = v
  | [], x, _, hx => by
    rcases hx with hx | ⟨n, hn, _⟩
    · exact hx
    · exact absurd hn List.not_mem_nil
  | a :: L, x, hu, hx => by
    rw [List.foldl_cons]
    refine foldl_writes step lands upd i v hit miss L _ (fun n hn => hu n (List.mem_cons_of_mem _ hn)) ?_
    by_cases ha : lands a
    · exact .inl ((hit x a ha).trans (hu a List.mem_cons_self ha))
    · rcases hx with hx | ⟨n, hn, e⟩
      · exact .inl ((miss x a ha).trans hx)
      · rcases List.mem_cons.mp hn with rfl | hn
        · exact absurd e ha
        · exact .inr ⟨n, hn, e⟩

/-- A scatter that overwrites, read at a place: what the updates that land there agree on, or what was there. -/
theorem scatter_read {so si su : Shape} {w : Nat} {α : Type} (d : ScatterDims so si su) (x : so.Idx → α) (I : IVec si w) (upd : su.Idx → α)
    (i : so.Idx) (v : α) (hu : ∀ k, d.resultIdx? k I = some i → upd k = v) (hx : x i = v ∨ ∃ k, d.resultIdx? k I = some i) :
    Host.scatter d (fun _ b => b) x I upd i = v := by
  unfold Host.scatter
  refine foldl_writes _ (fun n => d.resultIdx? (su.rowMajor.symm n) I = some i) (fun n => upd (su.rowMajor.symm n)) i v
    (fun r n e => ?_) (fun r n e => ?_) _ x (fun n _ e => hu _ e) ?_
  · simp only [e, if_true]
  · cases hr : d.resultIdx? (su.rowMajor.symm n) I with
    | none => rfl
    | some p =>
      show (if i = p then _ else _) = _
      rw [if_neg fun hp => e (hr.trans (congrArg some hp.symm))]
  · rcases hx with hx | ⟨k, hk⟩
    · exact .inl hx
    · refine .inr ⟨su.rowMajor k, List.mem_finRange _, ?_⟩
      show d.resultIdx? (su.rowMajor.symm (su.rowMajor k)) I = _
      rw [Equiv.symm_apply_apply]
      exact hk

/-- The scatter's dimension numbers. -/
abbrev E := scatter_S1x16x2048x128_S1x16x7x3_S1x16x7x128_3_012_012_3

variable (I : IVec S1x16x7x3 32) (top : Fin 16 → Fin 7 → Fin 2048)

/-- Where an update's window starts on the first three axes. -/
theorem siIdx_eq (h : Fin 16) (j : Fin 7) (c : Fin 128) (q : Fin 3) (hq : q.val < E.scatterDimsToOperandDims.length) :
    E.siIdx (ix4 (0 : Fin 1) h j c) ⟨q.val, hq⟩ = ix4 (0 : Fin 1) h j q := by
  funext b
  refine Fin.ext ?_
  match b with
  | ⟨0, _⟩ => rfl
  | ⟨1, _⟩ => rfl
  | ⟨2, _⟩ => rfl
  | ⟨3, _⟩ => rfl

/-- An update lands at the row its words name. -/
theorem resultIdx_eq (h0 : ∀ h j, I (ix4 (0 : Fin 1) h j (0 : Fin 3)) = 0#32) (h1 : ∀ h j, I (ix4 (0 : Fin 1) h j (1 : Fin 3)) = BitVec.ofNat 32 h.val)
    (h2 : ∀ h j, I (ix4 (0 : Fin 1) h j (2 : Fin 3)) = KernelIdeal.Round.word (top h j)) (h : Fin 16) (j : Fin 7) (c : Fin 128) :
    E.resultIdx? (ix4 (0 : Fin 1) h j c) I = some (ix4 (0 : Fin 1) h (top h j) c) := by
  have w0 : E.window (ix4 (0 : Fin 1) h j c) (0 : Fin 4) = 0 := by unfold ScatterDims.window; rw [dif_neg (show (0 : Fin 4) ∉ E.sKept by decide)]
  have w1 : E.window (ix4 (0 : Fin 1) h j c) (1 : Fin 4) = 0 := by unfold ScatterDims.window; rw [dif_neg (show (1 : Fin 4) ∉ E.sKept by decide)]
  have w2 : E.window (ix4 (0 : Fin 1) h j c) (2 : Fin 4) = 0 := by unfold ScatterDims.window; rw [dif_neg (show (2 : Fin 4) ∉ E.sKept by decide)]
  have w3 : E.window (ix4 (0 : Fin 1) h j c) (3 : Fin 4) = c.val := by unfold ScatterDims.window; rw [dif_pos (show (3 : Fin 4) ∈ E.sKept by decide)]; rfl
  have s0 : E.start (ix4 (0 : Fin 1) h j c) I (0 : Fin 4) = 0 := by
    unfold ScatterDims.start; rw [dif_pos (show (0 : Fin 4) ∈ E.scatterDimsToOperandDims by decide)]
    refine (congrArg (fun a => (I a).toInt) (siIdx_eq h j c 0 (by decide))).trans ?_
    show (I (ix4 (0 : Fin 1) h j (0 : Fin 3))).toInt = 0
    rw [h0]; rfl
  have s1 : E.start (ix4 (0 : Fin 1) h j c) I (1 : Fin 4) = (h.val : ℤ) := by
    unfold ScatterDims.start; rw [dif_pos (show (1 : Fin 4) ∈ E.scatterDimsToOperandDims by decide)]
    refine (congrArg (fun a => (I a).toInt) (siIdx_eq h j c 1 (by decide))).trans ?_
    show (I (ix4 (0 : Fin 1) h j (1 : Fin 3))).toInt = (h.val : ℤ)
    rw [h1]
    exact KernelIdeal.Round.word_toInt (⟨h.val, by omega⟩ : Fin 2048)
  have s2 : E.start (ix4 (0 : Fin 1) h j c) I (2 : Fin 4) = ((top h j).val : ℤ) := by
    unfold ScatterDims.start; rw [dif_pos (show (2 : Fin 4) ∈ E.scatterDimsToOperandDims by decide)]
    refine (congrArg (fun a => (I a).toInt) (siIdx_eq h j c 2 (by decide))).trans ?_
    show (I (ix4 (0 : Fin 1) h j (2 : Fin 3))).toInt = ((top h j).val : ℤ)
    rw [h2]
    exact KernelIdeal.Round.word_toInt (top h j)
  have s3 : E.start (ix4 (0 : Fin 1) h j c) I (3 : Fin 4) = 0 := by
    unfold ScatterDims.start; rw [dif_neg (show (3 : Fin 4) ∉ E.scatterDimsToOperandDims by decide)]
  have hb : ∀ a : Fin 4, E.start (ix4 (0 : Fin 1) h j c) I a + (E.window (ix4 (0 : Fin 1) h j c) a : ℤ)
      = (((ix4 (0 : Fin 1) h (top h j) c : S1x16x2048x128.Idx) a).val : ℤ) := fun a => by
    match a with
    | ⟨0, _⟩ => show E.start _ I (0 : Fin 4) + (E.window _ (0 : Fin 4) : ℤ) = 0; rw [s0, w0]; rfl
    | ⟨1, _⟩ => show E.start _ I (1 : Fin 4) + (E.window _ (1 : Fin 4) : ℤ) = (h.val : ℤ); rw [s1, w1]; exact add_zero _
    | ⟨2, _⟩ => show E.start _ I (2 : Fin 4) + (E.window _ (2 : Fin 4) : ℤ) = ((top h j).val : ℤ); rw [s2, w2]; exact add_zero _
    | ⟨3, _⟩ => show E.start _ I (3 : Fin 4) + (E.window _ (3 : Fin 4) : ℤ) = (c.val : ℤ); rw [s3, w3]; exact zero_add _
  unfold ScatterDims.resultIdx?
  rw [dif_pos fun a => by
    have := (ix4 (0 : Fin 1) h (top h j) c : S1x16x2048x128.Idx) a |>.isLt
    rw [hb a]
    exact ⟨Int.natCast_nonneg _, Int.ofNat_lt.mpr this⟩]
  refine congrArg some (funext fun a => Fin.ext ?_)
  show (E.start (ix4 (0 : Fin 1) h j c) I a + (E.window (ix4 (0 : Fin 1) h j c) a : ℤ)).toNat = _
  rw [hb a]
  rfl

/-- The scatter into an array: at a row a head's selection holds, the update; elsewhere the array. -/
theorem scatter_apply (h0 : ∀ h j, I (ix4 (0 : Fin 1) h j (0 : Fin 3)) = 0#32) (h1 : ∀ h j, I (ix4 (0 : Fin 1) h j (1 : Fin 3)) = BitVec.ofNat 32 h.val)
    (h2 : ∀ h j, I (ix4 (0 : Fin 1) h j (2 : Fin 3)) = KernelIdeal.Round.word (top h j))
    (x : S1x16x2048x128.Idx → EReal) (upd : S1x16x7x128.Idx → EReal) (h : Fin 16) (l : Fin 2048) (c : Fin 128) (v : EReal)
    (hv : ∀ j, top h j = l → upd (ix4 (0 : Fin 1) h j c) = v) (hx : (∀ j, top h j ≠ l) → x (ix4 (0 : Fin 1) h l c) = v) :
    Host.scatter E (fun _ b => b) x I upd (ix4 (0 : Fin 1) h l c) = v := by
  refine scatter_read E x I upd _ v (fun u e => ?_) ?_
  · obtain ⟨a, h', j, c', rfl⟩ : ∃ (a : Fin 1) (h' : Fin 16) (j : Fin 7) (c' : Fin 128), u = ix4 a h' j c' := ⟨u 0, u 1, u 2, u 3, ValueIdx.eq_ix4 u⟩
    obtain rfl : a = 0 := Subsingleton.elim _ _
    rw [resultIdx_eq I top h0 h1 h2] at e
    have e := Option.some.inj e
    have e1 : h' = h := congrFun e (1 : Fin 4)
    have e2 : top h' j = l := congrFun e (2 : Fin 4)
    have e3 : c' = c := congrFun e (3 : Fin 4)
    subst e1 e3
    exact hv j e2
  · by_cases hs : ∃ j, top h j = l
    · obtain ⟨j, hj⟩ := hs
      exact .inr ⟨ix4 (0 : Fin 1) h j c, by rw [resultIdx_eq I top h0 h1 h2, hj]⟩
    · exact .inl (hx fun j e => hs ⟨j, e⟩)

end Cert.ReferenceIdeal.RefRows

end
-- ==== Proof.RefCtx.lean ====
/-
  The reference's attention of the selected queries, entry by entry.
-/
module

public import proofs.«01_k».proof.Proof.RefRows
public import Idealize.ShloMosaic.Lib.ReduceAll
public import Idealize.ShloMosaic.Lib.Routing.OpsPair

@[expose] public section

set_option maxRecDepth 16384

noncomputable section

namespace Cert.ReferenceIdeal.RefCtx

open Idealize.ShloMosaic Idealize.ShloMosaic.TcCoe Cert.ReferenceIdeal.Gen Cert.ReferenceIdeal.Read Idealize.ShloMosaic.Pointwise
open Cert.ReferenceIdeal.RefProj Cert.ReferenceIdeal.RefTop Cert.ReferenceIdeal.RefRows

variable (x0 : S1x2048x2048.Idx → EReal) (x1 x3 x5 x7 : S2048x2048.Idx → EReal) (x2 x4 x6 x8 : S2048.Idx → EReal)

/-- The queries a head selects. -/
def tops (h : Fin 16) (j : Fin 7) : Fin 2048 := Spec.top (Spec.head (pr x0 x1 x2) h) (Spec.head (pr x0 x3 x4) h) j

/-- A position's word is not wrapped. -/
theorem wrap_word (p : Fin 2048) (a : BitVec 32) :
    Scalar.select (IntOp.cmpi .slt (KernelIdeal.Round.word p) 0#32) a (KernelIdeal.Round.word p) = KernelIdeal.Round.word p :=
  Routing.wrap_of_lt _ _ (by
    unfold KernelIdeal.Round.word
    rw [BitVec.toNat_ofNat]
    exact lt_of_le_of_lt (Nat.mod_le _ _) (lt_trans p.isLt (by norm_num)))

/-- The gather's row of indices, wrapped. -/
theorem wrapped_apply (h : Fin 16) (j : Fin 7) : val_main_call0_v5 (F := Ideal) x0 x1 x2 x3 x4 (ix3 h j (0 : Fin 1))
    = KernelIdeal.Round.word (tops x0 x1 x3 x2 x4 h j) := by
  have e27 : val_main_v27 (F := Ideal) x0 x1 x2 x3 x4 (ix4 (0 : Fin 1) h j (0 : Fin 1)) = KernelIdeal.Round.word (tops x0 x1 x3 x2 x4 h j) := by
    refine Eq.trans ?_ (indices_apply x0 x1 x3 x2 x4 h j)
    unfold val_main_v27
    generalize val_main_indices (F := Ideal) x0 x1 x2 x3 x4 = I
    pointwise []
  have e5 : val_main_call0_v5 (F := Ideal) x0 x1 x2 x3 x4 (ix3 h j (0 : Fin 1)) = val_main_call0_v4 (F := Ideal) x0 x1 x2 x3 x4 (ix4 (0 : Fin 1) h j (0 : Fin 1)) := by
    unfold val_main_call0_v5
    generalize val_main_call0_v4 (F := Ideal) x0 x1 x2 x3 x4 = I
    pointwise []
  rw [e5, ← wrap_word (tops x0 x1 x3 x2 x4 h j) (val_main_call0_v3 (F := Ideal) x0 x1 x2 x3 x4 (ix4 (0 : Fin 1) h j (0 : Fin 1))), ← e27]
  rfl

/-- Every selected position is in range. -/
theorem inRange_apply (i : S16x7x1.Idx) : val_main_call0_v11 (F := Ideal) x0 x1 x2 x3 x4 i = 1#1 := by
  obtain ⟨h, j, a, rfl⟩ : ∃ (h : Fin 16) (j : Fin 7) (a : Fin 1), i = ix3 h j a := ⟨i 0, i 1, i 2, ValueIdx.eq_ix3 i⟩
  obtain rfl : a = 0 := Subsingleton.elim _ _
  show IntOp.andi (IntOp.cmpi .sge (val_main_call0_v5 (F := Ideal) x0 x1 x2 x3 x4 (ix3 h j (0 : Fin 1))) 0#32)
    (IntOp.cmpi .sle (val_main_call0_v5 (F := Ideal) x0 x1 x2 x3 x4 (ix3 h j (0 : Fin 1))) 2047#32) = 1#1
  rw [wrapped_apply]
  generalize tops x0 x1 x3 x2 x4 h j = p
  have hp := KernelIdeal.Round.word_toInt p
  have h1 : IntOp.cmpi .sge (KernelIdeal.Round.word p) 0#32 = 1#1 := by
    rw [WordCmp.cmpi_sge_eq, hp, decide_eq_true (show (0#32 : BitVec 32).toInt ≤ (p.val : ℤ) from Int.natCast_nonneg _)]
    rfl
  have h2 : IntOp.cmpi .sle (KernelIdeal.Round.word p) 2047#32 = 1#1 := by
    have hlt := p.isLt
    rw [WordCmp.cmpi_sle_eq, hp, decide_eq_true (show (p.val : ℤ) ≤ (2047#32 : BitVec 32).toInt from by
      show (p.val : ℤ) ≤ 2047
      omega)]
    rfl
  rw [h1, h2]
  rfl

/-- The selected queries. -/
theorem v28_apply (h : Fin 16) (j : Fin 7) (c : Fin 128) : val_main_v28 (F := Ideal) x0 x1 x2 x3 x4 (ix4 (0 : Fin 1) h j c)
    = Spec.head (pr x0 x1 x2) h (tops x0 x1 x3 x2 x4 h j) c := by
  have e14 : val_main_call0_v14 (F := Ideal) x0 x1 x2 x3 x4 (ix4 (0 : Fin 1) h j c) = 1#1 := by
    rw [val_main_call0_v14_apply]
    unfold val_main_call0_v12
    exact Host.reduce_andi_one _ _ _ _ _ rfl (inRange_apply x0 x1 x3 x2 x4)
  have e13 : val_main_call0_v13 (F := Ideal) x0 x1 x2 x3 x4 (ix4 (0 : Fin 1) h j c) = Spec.head (pr x0 x1 x2) h (tops x0 x1 x3 x2 x4 h j) c := by
    unfold val_main_call0_v13
    rw [gather_apply _ _ h j c (tops x0 x1 x3 x2 x4 h j) (wrapped_apply x0 x1 x3 x2 x4 h j)]
    exact v6_apply x0 x1 x2 h _ c
  show Scalar.select (val_main_call0_v14 (F := Ideal) x0 x1 x2 x3 x4 (ix4 (0 : Fin 1) h j c)) (val_main_call0_v13 (F := Ideal) x0 x1 x2 x3 x4 (ix4 (0 : Fin 1) h j c)) _ = _
  rw [e14, e13]
  rfl

/-- The scaled scores of the selected queries. -/
theorem v31_apply (h : Fin 16) (j : Fin 7) (m : Fin 2048) : val_main_v31 (F := Ideal) x0 x1 x2 x3 x4 (ix4 (0 : Fin 1) h j m)
    = Spec.attnRow (Spec.head (pr x0 x1 x2) h (tops x0 x1 x3 x2 x4 h j)) (Spec.head (pr x0 x3 x4) h) m := by
  have e : ∀ (A : S1x16x7x128.Idx → EReal) (B : S1x16x2048x128.Idx → EReal), Host.dotGeneral (F := Ideal) (φ₁ := .f32) (φ₂ := .f32) dot_S1x16x7x128_S1x16x2048x128_S1x16x7x2048_3_3_2_2_01_01 none A B (ix4 (0 : Fin 1) h j m)
      = ∑ c : Fin 128, A (ix4 (0 : Fin 1) h j c) * B (ix4 (0 : Fin 1) h m c) := fun A B => by pointwise []
  have e29 : val_main_v29 (F := Ideal) x0 x1 x2 x3 x4 (ix4 (0 : Fin 1) h j m)
      = ∑ c : Fin 128, Spec.head (pr x0 x1 x2) h (tops x0 x1 x3 x2 x4 h j) c * Spec.head (pr x0 x3 x4) h m c := by
    unfold val_main_v29
    rw [e]
    exact Finset.sum_congr rfl fun c _ => congrArg₂ (· * ·) (v28_apply x0 x1 x3 x2 x4 h j c) (v6_apply x0 x3 x4 h m c)
  show val_main_v29 (F := Ideal) x0 x1 x2 x3 x4 (ix4 (0 : Fin 1) h j m) * val_main_v30 (F := Ideal) (ix4 (0 : Fin 1) h j m) = _
  rw [e29, val_main_v30_apply, v22_eq]
  rfl

/-- The greatest of those scores. -/
theorem v36_apply (h : Fin 16) (j : Fin 7) (m : Fin 2048) : val_main_v36 (F := Ideal) x0 x1 x2 x3 x4 (ix4 (0 : Fin 1) h j m)
    = Finset.univ.fold max ⊥ (Spec.attnRow (Spec.head (pr x0 x1 x2) h (tops x0 x1 x3 x2 x4 h j)) (Spec.head (pr x0 x3 x4) h)) := by
  have e : ∀ A : S1x16x7x2048.Idx → EReal, Host.reduce (FloatOps.maximumf (F := Ideal) (φ := .f32)) A (val_main_cst_2 (F := Ideal)) reducesTo_S1x16x7x2048_S1x16x7_d3 h_S_ (ix3 (0 : Fin 1) h j)
      = Finset.univ.fold max ⊥ fun m : Fin 2048 => A (ix4 (0 : Fin 1) h j m) := fun A => by
    pointwise [val_main_cst_2]
    rw [KernelIdeal.Round.ofBits_ninf]
  have e32 : val_main_v32 (F := Ideal) x0 x1 x2 x3 x4 (ix3 (0 : Fin 1) h j)
      = Finset.univ.fold max ⊥ (Spec.attnRow (Spec.head (pr x0 x1 x2) h (tops x0 x1 x3 x2 x4 h j)) (Spec.head (pr x0 x3 x4) h)) := by
    unfold val_main_v32
    rw [e]
    exact congrArg (Finset.univ.fold max ⊥) (funext fun m => v31_apply x0 x1 x3 x2 x4 h j m)
  have e34 : val_main_v34 (F := Ideal) x0 x1 x2 x3 x4 (ix3 (0 : Fin 1) h j) = val_main_v32 (F := Ideal) x0 x1 x2 x3 x4 (ix3 (0 : Fin 1) h j) := by
    show max (val_main_v33 (F := Ideal) (ix3 (0 : Fin 1) h j)) _ = _
    rw [show val_main_v33 (F := Ideal) (ix3 (0 : Fin 1) h j) = ⊥ from by rw [val_main_v33_apply]; exact KernelIdeal.Round.ofBits_ninf, max_eq_right bot_le]
  rw [← e32, ← e34]
  unfold val_main_v36 val_main_v35
  generalize val_main_v34 (F := Ideal) x0 x1 x2 x3 x4 = A
  pointwise []

/-- The exponentials. -/
theorem v38_apply (h : Fin 16) (j : Fin 7) (m : Fin 2048) : val_main_v38 (F := Ideal) x0 x1 x2 x3 x4 (ix4 (0 : Fin 1) h j m)
    = Spec.expRow (Spec.attnRow (Spec.head (pr x0 x1 x2) h (tops x0 x1 x3 x2 x4 h j)) (Spec.head (pr x0 x3 x4) h)) m := by
  show Ideal.exp (val_main_v31 (F := Ideal) x0 x1 x2 x3 x4 (ix4 (0 : Fin 1) h j m) - val_main_v36 (F := Ideal) x0 x1 x2 x3 x4 (ix4 (0 : Fin 1) h j m)) = _
  rw [v31_apply, v36_apply]
  rfl

/-- The softmax. -/
theorem v42_apply (h : Fin 16) (j : Fin 7) (m : Fin 2048) : val_main_v42 (F := Ideal) x0 x1 x2 x3 x4 (ix4 (0 : Fin 1) h j m)
    = Spec.soft (Spec.attnRow (Spec.head (pr x0 x1 x2) h (tops x0 x1 x3 x2 x4 h j)) (Spec.head (pr x0 x3 x4) h)) m := by
  have e : ∀ A : S1x16x7x2048.Idx → EReal, Host.reduceAdd (F := Ideal) (φ := .f32) A (val_main_cst_4 (F := Ideal)) reducesTo_S1x16x7x2048_S1x16x7_d3 h_S_ (ix3 (0 : Fin 1) h j)
      = ∑ m : Fin 2048, A (ix4 (0 : Fin 1) h j m) := fun A => by
    pointwise [val_main_cst_4]
  have e39 : val_main_v39 (F := Ideal) x0 x1 x2 x3 x4 (ix3 (0 : Fin 1) h j)
      = ∑ m : Fin 2048, Spec.expRow (Spec.attnRow (Spec.head (pr x0 x1 x2) h (tops x0 x1 x3 x2 x4 h j)) (Spec.head (pr x0 x3 x4) h)) m := by
    unfold val_main_v39
    rw [e]
    exact Finset.sum_congr rfl fun m _ => v38_apply x0 x1 x3 x2 x4 h j m
  have e41 : val_main_v41 (F := Ideal) x0 x1 x2 x3 x4 (ix4 (0 : Fin 1) h j m) = val_main_v39 (F := Ideal) x0 x1 x2 x3 x4 (ix3 (0 : Fin 1) h j) := by
    unfold val_main_v41 val_main_v40
    generalize val_main_v39 (F := Ideal) x0 x1 x2 x3 x4 = A
    pointwise []
  show Ideal.div (val_main_v38 (F := Ideal) x0 x1 x2 x3 x4 (ix4 (0 : Fin 1) h j m)) (val_main_v41 (F := Ideal) x0 x1 x2 x3 x4 (ix4 (0 : Fin 1) h j m)) = _
  rw [v38_apply, e41, e39]
  rfl

/-- The attention of the selected queries. -/
theorem v43_apply (h : Fin 16) (j : Fin 7) (c : Fin 128) : val_main_v43 (F := Ideal) x0 x1 x2 x3 x4 x5 x6 (ix4 (0 : Fin 1) h j c)
    = Spec.ctxRow (Spec.head (pr x0 x1 x2) h (tops x0 x1 x3 x2 x4 h j)) (Spec.head (pr x0 x3 x4) h) (Spec.head (pr x0 x5 x6) h) c := by
  have e : ∀ (A : S1x16x7x2048.Idx → EReal) (B : S1x16x2048x128.Idx → EReal), Host.dotGeneral (F := Ideal) (φ₁ := .f32) (φ₂ := .f32) dot_S1x16x7x2048_S1x16x2048x128_S1x16x7x128_3_2_2_3_01_01 none A B (ix4 (0 : Fin 1) h j c)
      = ∑ m : Fin 2048, A (ix4 (0 : Fin 1) h j m) * B (ix4 (0 : Fin 1) h m c) := fun A B => by pointwise []
  unfold val_main_v43
  rw [e]
  exact Finset.sum_congr rfl fun m _ => congrArg₂ (· * ·) (v42_apply x0 x1 x3 x2 x4 h j m) (v6_apply x0 x5 x6 h m c)

end Cert.ReferenceIdeal.RefCtx

end
-- ==== Proof.RefOut.lean ====
/-
  The reference's output, entry by entry.
-/
module

public import proofs.«01_k».proof.Proof.RefCtx

@[expose] public section

set_option maxRecDepth 16384

noncomputable section

namespace Cert.ReferenceIdeal.RefOut

open Idealize.ShloMosaic Idealize.ShloMosaic.TcCoe Cert.ReferenceIdeal.Gen Cert.ReferenceIdeal.Read Idealize.ShloMosaic.Pointwise
open Cert.ReferenceIdeal.RefProj Cert.ReferenceIdeal.RefTop Cert.ReferenceIdeal.RefRows Cert.ReferenceIdeal.RefCtx

variable (x0 : S1x2048x2048.Idx → EReal) (x1 x3 x5 x7 : S2048x2048.Idx → EReal) (x2 x4 x6 x8 : S2048.Idx → EReal)

/-- The batch's word. -/
theorem v66_apply (h : Fin 16) (j : Fin 7) : val_main_v66 (F := Ideal) (ix4 (0 : Fin 1) h j (0 : Fin 1)) = 0#32 := by
  have e : val_main_v66 (F := Ideal) (ix4 (0 : Fin 1) h j (0 : Fin 1)) = val_main_v53 (F := Ideal) (ix3 (0 : Fin 1) (0 : Fin 1) (0 : Fin 1)) := by
    unfold val_main_v66 val_main_v64
    generalize val_main_v53 (F := Ideal) = A
    pointwise []
  rw [e]
  have e46 : val_main_v46 (F := Ideal) (ix3 (0 : Fin 1) (0 : Fin 1) (0 : Fin 1)) = 0#32 := by
    rw [val_main_v46_apply]
    rfl
  show Scalar.select (IntOp.cmpi .slt (val_main_v46 (F := Ideal) (ix3 (0 : Fin 1) (0 : Fin 1) (0 : Fin 1))) 0#32) (val_main_v52 (F := Ideal) (ix3 (0 : Fin 1) (0 : Fin 1) (0 : Fin 1))) (val_main_v46 (F := Ideal) (ix3 (0 : Fin 1) (0 : Fin 1) (0 : Fin 1))) = 0#32
  rw [e46]
  rfl

/-- The head's word. -/
theorem v67_apply (h : Fin 16) (j : Fin 7) : val_main_v67 (F := Ideal) (ix4 (0 : Fin 1) h j (0 : Fin 1)) = BitVec.ofNat 32 h.val := by
  have e : val_main_v67 (F := Ideal) (ix4 (0 : Fin 1) h j (0 : Fin 1)) = val_main_v58 (F := Ideal) (ix3 (0 : Fin 1) h (0 : Fin 1)) := by
    unfold val_main_v67 val_main_v65
    generalize val_main_v58 (F := Ideal) = A
    pointwise []
  rw [e]
  have e48 : val_main_v48 (F := Ideal) (ix3 (0 : Fin 1) h (0 : Fin 1)) = BitVec.ofNat 32 h.val := by
    rw [val_main_v48_apply]
    rfl
  show Scalar.select (IntOp.cmpi .slt (val_main_v48 (F := Ideal) (ix3 (0 : Fin 1) h (0 : Fin 1))) 0#32) (val_main_v57 (F := Ideal) (ix3 (0 : Fin 1) h (0 : Fin 1))) (val_main_v48 (F := Ideal) (ix3 (0 : Fin 1) h (0 : Fin 1))) = _
  rw [e48]
  exact wrap_word (⟨h.val, by omega⟩ : Fin 2048) _

/-- The position's word. -/
theorem v68_apply (h : Fin 16) (j : Fin 7) : val_main_v68 (F := Ideal) x0 x1 x2 x3 x4 (ix4 (0 : Fin 1) h j (0 : Fin 1))
    = KernelIdeal.Round.word (tops x0 x1 x3 x2 x4 h j) := by
  have e : val_main_v68 (F := Ideal) x0 x1 x2 x3 x4 (ix4 (0 : Fin 1) h j (0 : Fin 1)) = val_main_v63 (F := Ideal) x0 x1 x2 x3 x4 (ix3 (0 : Fin 1) h j) := by
    unfold val_main_v68
    generalize val_main_v63 (F := Ideal) x0 x1 x2 x3 x4 = A
    pointwise []
  rw [e]
  have e59 : val_main_v59 (F := Ideal) (ix3 (0 : Fin 1) h j) = 0#32 := by
    rw [val_main_v59_apply, val_main_c_9_apply]
  have e60 : val_main_v60 (F := Ideal) x0 x1 x2 x3 x4 (ix3 (0 : Fin 1) h j) = IntOp.cmpi .slt (KernelIdeal.Round.word (tops x0 x1 x3 x2 x4 h j)) 0#32 := by
    rw [val_main_v60_apply, indices_apply, e59]
    rfl
  have e63 : val_main_v63 (F := Ideal) x0 x1 x2 x3 x4 (ix3 (0 : Fin 1) h j) = Scalar.select (val_main_v60 (F := Ideal) x0 x1 x2 x3 x4 (ix3 (0 : Fin 1) h j))
      (val_main_v62 (F := Ideal) x0 x1 x2 x3 x4 (ix3 (0 : Fin 1) h j)) (val_main_indices (F := Ideal) x0 x1 x2 x3 x4 (ix3 (0 : Fin 1) h j)) :=
    val_main_v63_apply (F := Ideal) x0 x1 x2 x3 x4 _
  rw [e63, e60, indices_apply]
  exact wrap_word _ _

/-- Three columns side by side, read at each. -/
theorem columns_apply (A B C : IVec S1x16x7x1 32) (h : Fin 16) (j : Fin 7) :
    concatenate S1x16x7x3 3 [⟨S1x16x7x1, A⟩, ⟨S1x16x7x1, B⟩, ⟨S1x16x7x1, C⟩] concatenates_S1x16x7x1_S1x16x7x1_S1x16x7x1_S1x16x7x3_d3 (ix4 (0 : Fin 1) h j (0 : Fin 3)) = A (ix4 (0 : Fin 1) h j (0 : Fin 1))
    ∧ concatenate S1x16x7x3 3 [⟨S1x16x7x1, A⟩, ⟨S1x16x7x1, B⟩, ⟨S1x16x7x1, C⟩] concatenates_S1x16x7x1_S1x16x7x1_S1x16x7x1_S1x16x7x3_d3 (ix4 (0 : Fin 1) h j (1 : Fin 3)) = B (ix4 (0 : Fin 1) h j (0 : Fin 1))
    ∧ concatenate S1x16x7x3 3 [⟨S1x16x7x1, A⟩, ⟨S1x16x7x1, B⟩, ⟨S1x16x7x1, C⟩] concatenates_S1x16x7x1_S1x16x7x1_S1x16x7x1_S1x16x7x3_d3 (ix4 (0 : Fin 1) h j (2 : Fin 3)) = C (ix4 (0 : Fin 1) h j (0 : Fin 1)) := by
  refine ⟨?_, ?_, ?_⟩ <;> pointwise []

/-- The attention put back at the selected rows, and zero elsewhere. -/
theorem v70_apply (h : Fin 16) (l : Fin 2048) (c : Fin 128) (v : EReal)
    (hv : ∀ j, tops x0 x1 x3 x2 x4 h j = l → Spec.ctxRow (Spec.head (pr x0 x1 x2) h l) (Spec.head (pr x0 x3 x4) h) (Spec.head (pr x0 x5 x6) h) c = v)
    (hx : (∀ j, tops x0 x1 x3 x2 x4 h j ≠ l) → 0 = v) :
    val_main_v70 (F := Ideal) x0 x1 x2 x3 x4 x5 x6 (ix4 (0 : Fin 1) h l c) = v := by
  have hc := fun h j => columns_apply (val_main_v66 (F := Ideal)) (val_main_v67 (F := Ideal)) (val_main_v68 (F := Ideal) x0 x1 x2 x3 x4) h j
  unfold val_main_v70
  refine scatter_apply _ (tops x0 x1 x3 x2 x4) (fun h j => (hc h j).1.trans (v66_apply h j)) (fun h j => (hc h j).2.1.trans (v67_apply h j))
    (fun h j => (hc h j).2.2.trans (v68_apply x0 x1 x3 x2 x4 h j)) _ _ h l c v (fun j hj => ?_) (fun hn => ?_)
  · rw [v43_apply]
    subst hj
    exact hv j rfl
  · refine Eq.trans ?_ (hx hn)
    rw [val_main_v44_apply]
    show Ideal.ofBits .f32 0x00000000#32 = 0
    exact Ideal.ofBits_zero .f32

/-- A sum over the columns, head by head. -/
theorem sum_cols (f : Fin 2048 → EReal) : ∑ r : Fin 2048, f r = ∑ h : Fin 16, ∑ c : Fin 128, f (Spec.col h c) := by
  rw [← Fintype.sum_prod_type' (f := fun (h : Fin 16) (c : Fin 128) => f (Spec.col h c))]
  refine (Fintype.sum_equiv (finProdFinEquiv : Fin 16 × Fin 128 ≃ Fin 2048) _ _ fun p => ?_).symm
  refine congrArg f (Fin.ext ?_)
  show p.1.val * 128 + p.2.val = p.2.val + 128 * p.1.val
  omega

/-- A head's selected queries are different. -/
theorem top_injective (q k : Fin 2048 → Fin 128 → EReal) : Function.Injective (Spec.top q k) := fun i j e => by
  unfold Spec.top at e
  have e' := Select.pos_injective (Spec.rowMax q k) e
  exact Fin.ext (Fin.mk.inj e')

/-- One head's share of an output. -/
theorem share (h : Fin 16) (l n : Fin 2048) :
    ∑ c : Fin 128, val_main_v70 (F := Ideal) x0 x1 x2 x3 x4 x5 x6 (ix4 (0 : Fin 1) h l c) * RefProj.sq x7 n (Spec.col h c)
      = ∑ j : Fin 7, if l = tops x0 x1 x3 x2 x4 h j then
          ∑ c : Fin 128, Spec.ctxRow (Spec.head (pr x0 x1 x2) h l) (Spec.head (pr x0 x3 x4) h) (Spec.head (pr x0 x5 x6) h) c * RefProj.sq x7 n (Spec.col h c) else 0 := by
  by_cases hs : ∃ j, tops x0 x1 x3 x2 x4 h j = l
  · obtain ⟨j, hj⟩ := hs
    rw [Finset.sum_eq_single j (fun k _ hk => if_neg fun e => hk (top_injective _ _ (e.symm.trans hj.symm))) (fun hn => absurd (Finset.mem_univ j) hn), if_pos hj.symm]
    exact Finset.sum_congr rfl fun c _ => congrArg (· * RefProj.sq x7 n (Spec.col h c))
      (v70_apply x0 x1 x3 x5 x2 x4 x6 h l c _ (fun _ _ => rfl) (fun hn => absurd hj (hn j)))
  · have e : ∀ j, ¬ l = tops x0 x1 x3 x2 x4 h j := fun j e => hs ⟨j, e.symm⟩
    rw [Finset.sum_congr rfl fun j _ => if_neg (e j), Finset.sum_const_zero]
    refine Finset.sum_eq_zero fun c _ => ?_
    rw [v70_apply x0 x1 x3 x5 x2 x4 x6 h l c 0 (fun j hj => absurd ⟨j, hj⟩ hs) (fun _ => rfl), zero_mul]

/-- The last product. -/
theorem v74_apply (l n : Fin 2048) : val_main_v74 (F := Ideal) x0 x1 x2 x3 x4 x5 x6 x7 (ix3 (0 : Fin 1) l n)
    = ∑ r : Fin 2048, val_main_v72 (F := Ideal) x0 x1 x2 x3 x4 x5 x6 (ix3 (0 : Fin 1) l r) * RefProj.sq x7 n r := by
  unfold val_main_v74 val_main_v73
  generalize val_main_v72 (F := Ideal) x0 x1 x2 x3 x4 x5 x6 = A
  pointwise [RefProj.sq]

/-- The heads side by side. -/
theorem v72_apply (l : Fin 2048) (h : Fin 16) (c : Fin 128) : val_main_v72 (F := Ideal) x0 x1 x2 x3 x4 x5 x6 (ix3 (0 : Fin 1) l (Spec.col h c))
    = val_main_v70 (F := Ideal) x0 x1 x2 x3 x4 x5 x6 (ix4 (0 : Fin 1) h l c) := by
  unfold val_main_v72 val_main_v71
  generalize val_main_v70 (F := Ideal) x0 x1 x2 x3 x4 x5 x6 = A
  pointwise [Spec.col]

/-- The bias. -/
theorem v76_apply (l n : Fin 2048) : val_main_v76 (F := Ideal) x8 (ix3 (0 : Fin 1) l n) = vec x8 n := by
  unfold val_main_v76 val_main_v75
  pointwise [vec]

/-- The reference's result. -/
theorem value (l n : Fin 2048) : val_main_v77 (F := Ideal) x0 x1 x2 x3 x4 x5 x6 x7 x8 (ix3 (0 : Fin 1) l n)
    = Spec.out (pr x0 x1 x2) (pr x0 x3 x4) (pr x0 x5 x6) (RefProj.sq x7) (vec x8) l n := by
  rw [val_main_v77_apply, v74_apply, v76_apply, sum_cols]
  unfold Spec.out
  refine congrArg (· + vec x8 n) (Finset.sum_congr rfl fun h _ => ?_)
  refine Eq.trans (Finset.sum_congr rfl fun c _ => ?_) (share x0 x1 x3 x5 x7 x2 x4 x6 h l n)
  rw [v72_apply]

end Cert.ReferenceIdeal.RefOut

end
-- ==== Proof.Finite.lean ====
/-
  The precondition: the arrays the selection is computed from hold no infinity, so no row's greatest score is `-∞`.
-/
module

public import proofs.«01_k».proof.Pre_finite_scores
public import proofs.«01_k».proof.Proof.Spec
public import Idealize.ShloMosaic.Lib.ReduceAll

@[expose] public section

set_option maxRecDepth 16384

noncomputable section

namespace Cert.Pre_finite_scores.Finite

open Idealize.ShloMosaic Cert.Pre_finite_scores

/-- The shapes fit. -/
theorem facts : Cert.Pre_finite_scores.Facts where
  bcast_S_S1x2048x2048 := by decide
  reducesTo_S1x2048x2048_S_d0_1_2 := by decide
  h_S_ := by decide
  bcast_S_S2048x2048 := by decide
  reducesTo_S2048x2048_S_d0_1 := by decide
  bcast_S_S2048 := by decide
  reducesTo_S2048_S_d0 := by decide

/-- An extended real that is real. -/
def IsReal (x : EReal) : Prop := ∃ r : ℝ, x = (r : EReal)

theorem isReal_add {x y : EReal} : IsReal x → IsReal y → IsReal (x + y) := by
  rintro ⟨a, rfl⟩ ⟨b, rfl⟩
  exact ⟨a + b, (EReal.coe_add a b).symm⟩
theorem isReal_mul {x y : EReal} : IsReal x → IsReal y → IsReal (x * y) := by
  rintro ⟨a, rfl⟩ ⟨b, rfl⟩
  exact ⟨a * b, (EReal.coe_mul a b).symm⟩
/-- A sum of reals is real. -/
theorem isReal_sum {ι : Type} (s : Finset ι) (f : ι → EReal) (h : ∀ i, IsReal (f i)) : IsReal (∑ i ∈ s, f i) := by
  classical
  induction s using Finset.induction_on with
  | empty => exact ⟨0, Finset.sum_empty⟩
  | insert a s ha ih => rw [Finset.sum_insert ha]; exact isReal_add (h a) ih

/-- A projection of real arrays is real. -/
theorem isReal_proj (x W : Fin 2048 → Fin 2048 → EReal) (b : Fin 2048 → EReal) (hx : ∀ l k, IsReal (x l k)) (hW : ∀ l k, IsReal (W l k))
    (hb : ∀ n, IsReal (b n)) (l n : Fin 2048) : IsReal (Spec.proj x W b l n) :=
  isReal_add (isReal_sum _ _ fun k => isReal_mul (hx l k) (hW n k)) (hb n)

/-- The greatest score of a row of real scores is not `-∞`. -/
theorem rowMax_ne_bot (q k : Fin 2048 → Fin 128 → EReal) (hq : ∀ l c, IsReal (q l c)) (hk : ∀ l c, IsReal (k l c)) (l : Fin 2048) :
    Spec.rowMax q k l ≠ ⊥ := fun e => by
  obtain ⟨r, hr⟩ : IsReal (∑ c : Fin 128, q l c * k 0 c) := isReal_sum _ _ fun c => isReal_mul (hq l c) (hk 0 c)
  have hle : (∑ c : Fin 128, q l c * k 0 c) ≤ Spec.rowMax q k l :=
    (Finset.le_fold_max _).mpr (.inr ⟨0, Finset.mem_univ _, le_refl _⟩)
  rw [e, hr, le_bot_iff] at hle
  exact EReal.coe_ne_bot r hle

/-- A value whose magnitude is below `+∞` is real. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  obtain ⟨h1, h2⟩ := max_lt_iff.mp hlt
  induction x with
  | bot => simp at h2
  | coe r => exact ⟨r, rfl⟩
  | top => simp at h1

instance : Subsingleton S_.Idx := ⟨fun _ _ => funext fun a => a.elim0⟩

/-- An array all of whose magnitudes are below `+∞` is real. -/
theorem isReal_of_all {s : Shape} {axes : List (Fin s.rank)} (x : s.Idx → EReal) (hb : S_.BroadcastsInDim s (![] : Fin 0 → Fin s.rank))
    (hr : s.ReducesTo axes S_) (hu : 0 < S_.numel) (j : S_.Idx)
    (e : Host.reduce IntOp.andi (cmpf (F := Ideal) .olt (Host.absf (F := Ideal) (φ := .f32) x) (broadcastInDim s ![] hb (constant S_ .f32 0x7F800000#32))) (constantI S_ 1 1#1) hr hu j = 1#1)
    (i : s.Idx) : IsReal (x i) :=
  isReal_of_lt (x i) (Host.reduce_andi_all _ _ hr hu j e i)

/-- Under the precondition the five arrays are real. -/
theorem reals [Cert.Pre_finite_scores.Facts] (x : S1x2048x2048.Idx → EReal) (Wq : S2048x2048.Idx → EReal) (bq : S2048.Idx → EReal) (Wk : S2048x2048.Idx → EReal) (bk : S2048.Idx → EReal)
    (Wv : S2048x2048.Idx → EReal) (bv : S2048.Idx → EReal) (Wo : S2048x2048.Idx → EReal) (bo : S2048.Idx → EReal)
    (h : Cert.Pre_finite_scores.fn (F := Ideal) x Wq bq Wk bk Wv bv Wo bo = fun _ => 1#1) :
    (∀ i, IsReal (x i)) ∧ (∀ i, IsReal (Wq i)) ∧ (∀ i, IsReal (bq i)) ∧ (∀ i, IsReal (Wk i)) ∧ (∀ i, IsReal (bk i)) := by
  have h := congrFun h (fun a => a.elim0)
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨isReal_of_all x _ _ _ _ h1, isReal_of_all Wq _ _ _ _ h2, isReal_of_all bq _ _ _ _ h3, isReal_of_all Wk _ _ _ _ h4, isReal_of_all bk _ _ _ _ h5⟩

end Cert.Pre_finite_scores.Finite

end
-- ==== Proof.lean ====
module

public import proofs.«01_k».proof.Proof.Gen.ReferenceIdeal.Read
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launched
public import proofs.«01_k».proof.Proof.KernelRun
public import proofs.«01_k».proof.Proof.RefOut
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

/-- The reference's run leaves its arguments and its counters as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named scale is `1/√128`. -/
theorem preserves : Cert.preserves_Kernel_KernelIdeal :=
  IdealRules.named_const.statement Cert.KernelIdeal.κ "scale" .f32 0x3DB504F3#32 (((Real.sqrt 128)⁻¹ : ℝ) : EReal) rfl

/-- Under the precondition no row's greatest score is `-∞`. -/
theorem rowMax_ne_bot [Cert.Pre_finite_scores.Facts]
    (m : (ℓ : Loc Cert.KernelIdeal.nD Cert.KernelIdeal.τ Cert.KernelIdeal.sig) → Buf (Elt Ideal) ℓ) (hpre : Cert.Pre_KernelIdeal_finite_scores m)
    (c : Dev Cert.KernelIdeal.nD) (h : Fin 16) (l : Fin 2048) :
    Cert.Spec.rowMax (Cert.Spec.head (Cert.KernelIdeal.KernelRun.Qs m c) h) (Cert.Spec.head (Cert.KernelIdeal.KernelRun.Ks m c) h) l ≠ ⊥ := by
  obtain ⟨hx, hWq, hbq, hWk, hbk⟩ := Cert.Pre_finite_scores.Finite.reals _ _ _ _ _ _ _ _ _ (hpre c)
  exact Cert.Pre_finite_scores.Finite.rowMax_ne_bot _ _
    (fun _ _ => Cert.Pre_finite_scores.Finite.isReal_proj _ _ _ (fun _ _ => hx _) (fun _ _ => hWq _) (fun _ => hbq _) _ _)
    (fun _ _ => Cert.Pre_finite_scores.Finite.isReal_proj _ _ _ (fun _ _ => hx _) (fun _ _ => hWk _) (fun _ => hbk _) _ _) l

/-- The kernel's result array ends at the reference's. -/
theorem algebraic [Cert.Pre_finite_scores.Facts] : Cert.algebraic_KernelIdeal_ReferenceIdeal_pre_finite_scores := by
  intro m ρ m' ρ' hpre hagree
  refine ⟨_, Cert.KernelIdeal.Launched.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  refine (Cert.ReferenceIdeal.Read.val_main_v77_eq m' c).trans ?_
  rw [h0, h1, h2, h3, h4, h5, h6, h7, h8]
  funext i
  obtain ⟨a, l, n, rfl⟩ : ∃ (a : Fin 1) (l : Fin 2048) (n : Fin 2048), i = ix3 a l n := ⟨i 0, i 1, i 2, ValueIdx.eq_ix3 i⟩
  obtain rfl : a = 0 := Subsingleton.elim _ _
  exact (Cert.ReferenceIdeal.RefOut.value _ _ _ _ _ _ _ _ _ l n).trans
    (Cert.KernelIdeal.KernelRun.value m ρ c (rowMax_ne_bot m hpre c) l n).symm

theorem claim : Cert.Claim :=
  ⟨Cert.Kernel.Gen.facts, Cert.KernelIdeal.Gen.facts, Cert.ReferenceIdeal.Gen.facts, Cert.Pre_finite_scores.Finite.facts,
    frame_p, frame_pi, fun m ρ _ => Cert.KernelIdeal.Gen.frame m ρ, frame_ri, fun m ρ _ => frame_ri m ρ trivial, preserves,
    letI := Cert.Pre_finite_scores.Finite.facts; algebraic⟩

end Cert.Proof

end
